-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![32, 128, 256]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![16, 256]⟩ ⟨2, ![256, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v76) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S128x32 : Shape := ⟨2, ![128, 32]⟩
abbrev S256x2 : Shape := ⟨2, ![256, 2]⟩
abbrev S2x128x256 : Shape := ⟨3, ![2, 128, 256]⟩
abbrev S16x256 : Shape := ⟨2, ![16, 256]⟩
abbrev S16x16x256 : Shape := ⟨3, ![16, 16, 256]⟩
abbrev S16 : Shape := ⟨1, ![16]⟩
abbrev S_ : Shape := ⟨0, ![]⟩
abbrev S256x32 : Shape := ⟨2, ![256, 32]⟩
abbrev S256 : Shape := ⟨1, ![256]⟩
abbrev S256x1 : Shape := ⟨2, ![256, 1]⟩
abbrev S256x256 : Shape := ⟨2, ![256, 256]⟩
abbrev S1x128x256 : Shape := ⟨3, ![1, 128, 256]⟩
abbrev S128x256 : Shape := ⟨2, ![128, 256]⟩
abbrev S1x16x256 : Shape := ⟨3, ![1, 16, 256]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S256x128, .f32⟩
  | .hbm, ⟨1, _⟩ => ⟨S128x32, .f32⟩
  | .hbm, ⟨2, _⟩ => ⟨S256x2, .i32⟩
  | .hbm, ⟨3, _⟩ => ⟨S2x128x256, .f32⟩
  | .hbm, ⟨4, _⟩ => ⟨S16x256, .f32⟩
  | .local _ .vmem, ⟨0, _⟩ => ⟨S256x128, .f32⟩
  | .local _ .vmem, ⟨1, _⟩ => ⟨S128x32, .f32⟩
  | .local _ .vmem, ⟨2, _⟩ => ⟨S256x2, .i32⟩
  | .local _ .vmem, ⟨3, _⟩ => ⟨S2x128x256, .f32⟩
  | .local _ .vmem, ⟨4, _⟩ => ⟨S16x256, .f32⟩
  | .local _ .vmem, ⟨5, _⟩ => ⟨S16x16x256, .f32⟩
  | .local _ .vmem, ⟨6, _⟩ => ⟨S16x16x256, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_97 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v141 : BitVec 32 := Scalar.addi v2 c1_i32_97
  let c16_i32_98 : BitVec 32 := 16#32
  let v142 : BitVec 32 := Scalar.remsi v141 c16_i32_98
  let c0_i32_106 : BitVec 32 := 0#32
  let c0_i32_107 : BitVec 32 := 0#32
  ![v142.toNat, 0, 0]
def k0_dev16 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_97 : BitVec 32 := 1#32
  let v141 : BitVec 32 := Scalar.addi v2 c1_i32_97
  let c16_i32_98 : BitVec 32 := 16#32
  let v142 : BitVec 32 := Scalar.remsi v141 c16_i32_98
  let c1_i32_101 : BitVec 32 := 1#32
  let v143 : BitVec 32 := Scalar.muli v142 c1_i32_101
  let v144 : BitVec 32 := Scalar.addi c0_i32_102 v143
  v144.toNat
def k0_dev17 (d0 : Dev nD) : Nat :=
  let c0_i32_113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_108 : BitVec 32 := 2#32
  let v151 : BitVec 32 := Scalar.addi v2 c2_i32_108
  let c16_i32_109 : BitVec 32 := 16#32
  let v152 : BitVec 32 := Scalar.remsi v151 c16_i32_109
  let c1_i32_112 : BitVec 32 := 1#32
  let v153 : BitVec 32 := Scalar.muli v152 c1_i32_112
  let v154 : BitVec 32 := Scalar.addi c0_i32_113 v153
  v154.toNat
def k0_dev18 (d0 : Dev nD) : Nat :=
  let c0_i32_124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_119 : BitVec 32 := 3#32
  let v161 : BitVec 32 := Scalar.addi v2 c3_i32_119
  let c16_i32_120 : BitVec 32 := 16#32
  let v162 : BitVec 32 := Scalar.remsi v161 c16_i32_120
  let c1_i32_123 : BitVec 32 := 1#32
  let v163 : BitVec 32 := Scalar.muli v162 c1_i32_123
  let v164 : BitVec 32 := Scalar.addi c0_i32_124 v163
  v164.toNat
def k0_dev19 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_130 : BitVec 32 := 4#32
  let v171 : BitVec 32 := Scalar.addi v2 c4_i32_130
  let c16_i32_131 : BitVec 32 := 16#32
  let v172 : BitVec 32 := Scalar.remsi v171 c16_i32_131
  let c1_i32_134 : BitVec 32 := 1#32
  let v173 : BitVec 32 := Scalar.muli v172 c1_i32_134
  let v174 : BitVec 32 := Scalar.addi c0_i32_135 v173
  v174.toNat
def k0_dev20 (d0 : Dev nD) : Nat :=
  let c0_i32_146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_141 : BitVec 32 := 5#32
  let v181 : BitVec 32 := Scalar.addi v2 c5_i32_141
  let c16_i32_142 : BitVec 32 := 16#32
  let v182 : BitVec 32 := Scalar.remsi v181 c16_i32_142
  let c1_i32_145 : BitVec 32 := 1#32
  let v183 : BitVec 32 := Scalar.muli v182 c1_i32_145
  let v184 : BitVec 32 := Scalar.addi c0_i32_146 v183
  v184.toNat
def k0_dev21 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_152 : BitVec 32 := 6#32
  let v191 : BitVec 32 := Scalar.addi v2 c6_i32_152
  let c16_i32_153 : BitVec 32 := 16#32
  let v192 : BitVec 32 := Scalar.remsi v191 c16_i32_153
  let c1_i32_156 : BitVec 32 := 1#32
  let v193 : BitVec 32 := Scalar.muli v192 c1_i32_156
  let v194 : BitVec 32 := Scalar.addi c0_i32_157 v193
  v194.toNat
def k0_dev22 (d0 : Dev nD) : Nat :=
  let c0_i32_168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_163 : BitVec 32 := 7#32
  let v201 : BitVec 32 := Scalar.addi v2 c7_i32_163
  let c16_i32_164 : BitVec 32 := 16#32
  let v202 : BitVec 32 := Scalar.remsi v201 c16_i32_164
  let c1_i32_167 : BitVec 32 := 1#32
  let v203 : BitVec 32 := Scalar.muli v202 c1_i32_167
  let v204 : BitVec 32 := Scalar.addi c0_i32_168 v203
  v204.toNat
def k0_dev23 (d0 : Dev nD) : Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_174 : BitVec 32 := 8#32
  let v211 : BitVec 32 := Scalar.addi v2 c8_i32_174
  let c16_i32_175 : BitVec 32 := 16#32
  let v212 : BitVec 32 := Scalar.remsi v211 c16_i32_175
  let c1_i32_178 : BitVec 32 := 1#32
  let v213 : BitVec 32 := Scalar.muli v212 c1_i32_178
  let v214 : BitVec 32 := Scalar.addi c0_i32_179 v213
  v214.toNat
def k0_dev24 (d0 : Dev nD) : Nat :=
  let c0_i32_190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_185 : BitVec 32 := 9#32
  let v221 : BitVec 32 := Scalar.addi v2 c9_i32_185
  let c16_i32_186 : BitVec 32 := 16#32
  let v222 : BitVec 32 := Scalar.remsi v221 c16_i32_186
  let c1_i32_189 : BitVec 32 := 1#32
  let v223 : BitVec 32 := Scalar.muli v222 c1_i32_189
  let v224 : BitVec 32 := Scalar.addi c0_i32_190 v223
  v224.toNat
def k0_dev25 (d0 : Dev nD) : Nat :=
  let c0_i32_201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_196 : BitVec 32 := 10#32
  let v231 : BitVec 32 := Scalar.addi v2 c10_i32_196
  let c16_i32_197 : BitVec 32 := 16#32
  let v232 : BitVec 32 := Scalar.remsi v231 c16_i32_197
  let c1_i32_200 : BitVec 32 := 1#32
  let v233 : BitVec 32 := Scalar.muli v232 c1_i32_200
  let v234 : BitVec 32 := Scalar.addi c0_i32_201 v233
  v234.toNat
def k0_dev26 (d0 : Dev nD) : Nat :=
  let c0_i32_212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_207 : BitVec 32 := 11#32
  let v241 : BitVec 32 := Scalar.addi v2 c11_i32_207
  let c16_i32_208 : BitVec 32 := 16#32
  let v242 : BitVec 32 := Scalar.remsi v241 c16_i32_208
  let c1_i32_211 : BitVec 32 := 1#32
  let v243 : BitVec 32 := Scalar.muli v242 c1_i32_211
  let v244 : BitVec 32 := Scalar.addi c0_i32_212 v243
  v244.toNat
def k0_dev27 (d0 : Dev nD) : Nat :=
  let c0_i32_223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_218 : BitVec 32 := 12#32
  let v251 : BitVec 32 := Scalar.addi v2 c12_i32_218
  let c16_i32_219 : BitVec 32 := 16#32
  let v252 : BitVec 32 := Scalar.remsi v251 c16_i32_219
  let c1_i32_222 : BitVec 32 := 1#32
  let v253 : BitVec 32 := Scalar.muli v252 c1_i32_222
  let v254 : BitVec 32 := Scalar.addi c0_i32_223 v253
  v254.toNat
def k0_dev28 (d0 : Dev nD) : Nat :=
  let c0_i32_234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_229 : BitVec 32 := 13#32
  let v261 : BitVec 32 := Scalar.addi v2 c13_i32_229
  let c16_i32_230 : BitVec 32 := 16#32
  let v262 : BitVec 32 := Scalar.remsi v261 c16_i32_230
  let c1_i32_233 : BitVec 32 := 1#32
  let v263 : BitVec 32 := Scalar.muli v262 c1_i32_233
  let v264 : BitVec 32 := Scalar.addi c0_i32_234 v263
  v264.toNat
def k0_dev29 (d0 : Dev nD) : Nat :=
  let c0_i32_245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_240 : BitVec 32 := 14#32
  let v271 : BitVec 32 := Scalar.addi v2 c14_i32_240
  let c16_i32_241 : BitVec 32 := 16#32
  let v272 : BitVec 32 := Scalar.remsi v271 c16_i32_241
  let c1_i32_244 : BitVec 32 := 1#32
  let v273 : BitVec 32 := Scalar.muli v272 c1_i32_244
  let v274 : BitVec 32 := Scalar.addi c0_i32_245 v273
  v274.toNat
def k0_dev30 (d0 : Dev nD) : Nat :=
  let c0_i32_256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_251 : BitVec 32 := 15#32
  let v281 : BitVec 32 := Scalar.addi v2 c15_i32_251
  let c16_i32_252 : BitVec 32 := 16#32
  let v282 : BitVec 32 := Scalar.remsi v281 c16_i32_252
  let c1_i32_255 : BitVec 32 := 1#32
  let v283 : BitVec 32 := Scalar.muli v282 c1_i32_255
  let v284 : BitVec 32 := Scalar.addi c0_i32_256 v283
  v284.toNat
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v381 : Index := Scalar.indexCast v2
  let c0_397 : Index := 0#32
  let c0_398 : Index := 0#32
  ![v381.toNat, 0, 0]
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S256x128 : Shape := ⟨2, ![256, 128]⟩
abbrev S128x32 : Shape := ⟨2, ![128, 32]⟩
abbrev S256x2 : Shape := ⟨2, ![256, 2]⟩
abbrev S32x128x256 : Shape := ⟨3, ![32, 128, 256]⟩
abbrev S256x32 : Shape := ⟨2, ![256, 32]⟩
abbrev S_ : Shape := ⟨0, ![]⟩
abbrev S256 : Shape := ⟨1, ![256]⟩
abbrev S256x1 : Shape := ⟨2, ![256, 1]⟩
abbrev S2 : Shape := ⟨1, ![2]⟩
abbrev S1x2 : Shape := ⟨2, ![1, 2]⟩
abbrev S1 : Shape := ⟨1, ![1]⟩
abbrev S1x1 : Shape := ⟨2, ![1, 1]⟩
abbrev S256x128x256 : Shape := ⟨3, ![256, 128, 256]⟩
abbrev S256x256 : Shape := ⟨2, ![256, 256]⟩

abbrev nBuf : Space → Nat
  | .hbm => 99
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S128x32, .f32⟩
  | .hbm, ⟨2, _⟩ => ⟨S256x2, .i32⟩
  | .hbm, ⟨3, _⟩ => ⟨S32x128x256, .f32⟩
  | .hbm, ⟨4, _⟩ => ⟨S256x32, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S256x32, .f32⟩
  | .hbm, ⟨9, _⟩ => ⟨S256x32, .f32⟩
  | .hbm, ⟨10, _⟩ => ⟨S256x32, .f32⟩
  | .hbm, ⟨11, _⟩ => ⟨S_, .f32⟩
  | .hbm, ⟨12, _⟩ => ⟨S256, .f32⟩
  | .hbm, ⟨13, _⟩ => ⟨S256x1, .f32⟩
  | .hbm, ⟨14, _⟩ => ⟨S256x32, .f32⟩
  | .hbm, ⟨15, _⟩ => ⟨S256x32, .f32⟩
  | .hbm, ⟨16, _⟩ => ⟨S256, .i32⟩
  | .hbm, ⟨17, _⟩ => ⟨S256x1, .i32⟩
  | .hbm, ⟨18, _⟩ => ⟨S256, .i32⟩
  | .hbm, ⟨19, _⟩ => ⟨S256x1, .i32⟩
  | .hbm, ⟨20, _⟩ => ⟨S256, .i32⟩
  | .hbm, ⟨21, _⟩ => ⟨S256x1, .i32⟩
  | .hbm, ⟨22, _⟩ => ⟨S256x1, .i32⟩
  | .hbm, ⟨23, _⟩ => ⟨S256x2, .i32⟩
  | .hbm, ⟨24, _⟩ => ⟨S2, .i32⟩
  | .hbm, ⟨25, _⟩ => ⟨S_, .i32⟩
  | .hbm, ⟨26, _⟩ => ⟨S256x2, .i32⟩
  | .hbm, ⟨27, _⟩ => ⟨S256x2, .i1⟩
  | .hbm, ⟨28, _⟩ => ⟨S1x2, .i32⟩
  | .hbm, ⟨29, _⟩ => ⟨S256x2, .i32⟩
  | .hbm, ⟨30, _⟩ => ⟨S256x2, .i1⟩
  | .hbm, ⟨31, _⟩ => ⟨S256x2, .i1⟩
  | .hbm, ⟨32, _⟩ => ⟨S_, .i1⟩
  | .hbm, ⟨33, _⟩ => ⟨S256, .i1⟩
  | .hbm, ⟨34, _⟩ => ⟨S256, .f32⟩
  | .hbm, ⟨35, _⟩ => ⟨S_, .f32⟩
  | .hbm, ⟨36, _⟩ => ⟨S256, .f32⟩
  | .hbm, ⟨37, _⟩ => ⟨S256, .f32⟩
  | .hbm, ⟨38, _⟩ => ⟨S256x1, .i32⟩
  | .hbm, ⟨39, _⟩ => ⟨S256x1, .i32⟩
  | .hbm, ⟨40, _⟩ => ⟨S256x2, .i32⟩
  | .hbm, ⟨41, _⟩ => ⟨S2, .i32⟩
  | .hbm, ⟨42, _⟩ => ⟨S_, .i32⟩
  | .hbm, ⟨43, _⟩ => ⟨S256x2, .i32⟩
  | .hbm, ⟨44, _⟩ => ⟨S256x2, .i1⟩
  | .hbm, ⟨45, _⟩ => ⟨S1x2, .i32⟩
  | .hbm, ⟨46, _⟩ => ⟨S256x2, .i32⟩
  | .hbm, ⟨47, _⟩ => ⟨S256x2, .i1⟩
  | .hbm, ⟨48, _⟩ => ⟨S256x2, .i1⟩
  | .hbm, ⟨49, _⟩ => ⟨S_, .i1⟩
  | .hbm, ⟨50, _⟩ => ⟨S256, .i1⟩
  | .hbm, ⟨51, _⟩ => ⟨S256, .f32⟩
  | .hbm, ⟨52, _⟩ => ⟨S_, .f32⟩
  | .hbm, ⟨53, _⟩ => ⟨S256, .f32⟩
  | .hbm, ⟨54, _⟩ => ⟨S256, .f32⟩
  | .hbm, ⟨55, _⟩ => ⟨S256, .f32⟩
  | .hbm, ⟨56, _⟩ => ⟨S256, .f32⟩
  | .hbm, ⟨57, _⟩ => ⟨S256x1, .f32⟩
  | .hbm, ⟨58, _⟩ => ⟨S256x1, .i32⟩
  | .hbm, ⟨59, _⟩ => ⟨S1, .i32⟩
  | .hbm, ⟨60, _⟩ => ⟨S_, .i32⟩
  | .hbm, ⟨61, _⟩ => ⟨S256x1, .i32⟩
  | .hbm, ⟨62, _⟩ => ⟨S256x1, .i1⟩
  | .hbm, ⟨63, _⟩ => ⟨S1x1, .i32⟩
  | .hbm, ⟨64, _⟩ => ⟨S256x1, .i32⟩
  | .hbm, ⟨65, _⟩ => ⟨S256x1, .i1⟩
  | .hbm, ⟨66, _⟩ => ⟨S256x1, .i1⟩
  | .hbm, ⟨67, _⟩ => ⟨S_, .i1⟩
  | .hbm, ⟨68, _⟩ => ⟨S256, .i1⟩
  | .hbm, ⟨69, _⟩ => ⟨S256x128x256, .f32⟩
  | .hbm, ⟨70, _⟩ => ⟨S256x128x256, .i1⟩
  | .hbm, ⟨71, _⟩ => ⟨S_, .f32⟩
  | .hbm, ⟨72, _⟩ => ⟨S256x128x256, .f32⟩
  | .hbm, ⟨73, _⟩ => ⟨S256x128x256, .f32⟩
  | .hbm, ⟨74, _⟩ => ⟨S256x256, .f32⟩
  | .hbm, ⟨75, _⟩ => ⟨S256x256, .f32⟩
  | .hbm, ⟨76, _⟩ => ⟨S256x256, .f32⟩
  | .hbm, ⟨77, _⟩ => ⟨S256, .f32⟩
  | .hbm, ⟨78, _⟩ => ⟨S256x1, .f32⟩
  | .hbm, ⟨79, _⟩ => ⟨S256x1, .i32⟩
  | .hbm, ⟨80, _⟩ => ⟨S1, .i32⟩
  | .hbm, ⟨81, _⟩ => ⟨S_, .i32⟩
  | .hbm, ⟨82, _⟩ => ⟨S256x1, .i32⟩
  | .hbm, ⟨83, _⟩ => ⟨S256x1, .i1⟩
  | .hbm, ⟨84, _⟩ => ⟨S1x1, .i32⟩
  | .hbm, ⟨85, _⟩ => ⟨S256x1, .i32⟩
  | .hbm, ⟨86, _⟩ => ⟨S256x1, .i1⟩
  | .hbm, ⟨87, _⟩ => ⟨S256x1, .i1⟩
  | .hbm, ⟨88, _⟩ => ⟨S_, .i1⟩
  | .hbm, ⟨89, _⟩ => ⟨S256, .i1⟩
  | .hbm, ⟨90, _⟩ => ⟨S256x128x256, .f32⟩
  | .hbm, ⟨91, _⟩ => ⟨S256x128x256, .i1⟩
  | .hbm, ⟨92, _⟩ => ⟨S_, .f32⟩
  | .hbm, ⟨93, _⟩ => ⟨S256x128x256, .f32⟩
  | .hbm, ⟨94, _⟩ => ⟨S256x128x256, .f32⟩
  | .hbm, ⟨95, _⟩ => ⟨S256x256, .f32⟩
  | .hbm, ⟨96, _⟩ => ⟨S256x256, .f32⟩
  | .hbm, ⟨97, _⟩ => ⟨S256x256, .f32⟩
  | .hbm, ⟨98, _⟩ => ⟨S256x256, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_4 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_8 : Ref sig .tc := ⟨.hbm, 59, rfl⟩
abbrev main_c_9 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c_10 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_c_12 : Ref sig .tc := ⟨.hbm, 80, rfl⟩
abbrev main_c_13 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_c_14 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_15 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩

abbrev nD : Nat := 1
abbrev τ : Topo := Topo.v7x

variable {F : FTy → Type} [FloatOps F]
-- ==== Proof.Protocol.lean ====
/- The protocol of the sixteen devices, over the program `KernelIdeal` and any float values `F`.

   Every device computes a partial result for all 256 rows, cut into sixteen row blocks (the slots of its
   accumulator `cc0_scratch0`). It sends slot `t` of it to device `t`, which keeps the fifteen blocks it receives in
   the slots 1..15 of `cc0_scratch1`. Two devices are related by a step `k : Fin 15`, the device `k + 1` further on:
   the block from `c` to `fwd c k` lands in slot `k + 1` there, is counted on `c`'s send semaphore `k + 1` and on
   the receiver's receive semaphore `k + 1`. Before any block travels each device signals the fifteen others on the
   barrier semaphore and waits for fifteen signals; the signal of `fwd t d` to `t` hands `t` the slot of `fwd t d`
   that `t` will write. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Devices and steps -/

set_option backward.proofsInPublic true in
/-- The device `k + 1` further on around the ring of sixteen. -/
def fwd (c : Dev nD) (k : Fin 15) : Dev nD := ⟨(c.val + k.val + 1) % 16, Nat.mod_lt _ (by decide)⟩

/-- Going `k + 1` on and then the rest of the way round comes back. -/
theorem fwd_fwd_rev (c : Dev nD) (k : Fin 15) : fwd (fwd c k) k.rev = c := by
  revert c k; decide +kernel
/-- The same, starting with the rest of the way. -/
theorem fwd_rev_fwd (c : Dev nD) (k : Fin 15) : fwd (fwd c k.rev) k = c := by
  revert c k; decide +kernel
/-- No step leads back to the device itself. -/
theorem fwd_ne (c : Dev nD) (k : Fin 15) : fwd c k ≠ c := by
  revert c k; decide +kernel
/-- Distinct steps lead to distinct devices. -/
theorem fwd_inj (c : Dev nD) {k k' : Fin 15} (h : fwd c k = fwd c k') : k = k' := by
  revert c k k'; decide +kernel
/-- Every other device is some step away. -/
theorem exists_fwd (c : Dev nD) {d : Dev nD} (h : d ≠ c) : ∃ k, fwd c k = d := by
  revert c d; decide +kernel

/-- A step, as a permutation of the devices. -/
def turn (k : Fin 15) : Dev nD ≃ Dev nD :=
  ⟨fun c => fwd c k, fun c => fwd c k.rev, fun c => fwd_fwd_rev c k, fun c => fwd_rev_fwd c k⟩

/-! ## Buffers, slots and semaphores -/

/-- The accumulator: the device's own partial result, slot by slot. -/
abbrev accM : Memref sig .tc .vmem S16x16x256 .f32 := Memref.whole cc0_scratch0
/-- The landing buffer: the blocks of the other devices, slot by slot. -/
abbrev recvM : Memref sig .tc .vmem S16x16x256 .f32 := Memref.whole cc0_scratch1

/-- The element of slot `n` at row `a` and column `b`. -/
def elemAt (n a : Fin 16) (b : Fin 256) : S16x16x256.Idx := fun | 0 => n | 1 => a | 2 => b

/-- The elements of slot `n` of a buffer of sixteen blocks. -/
def slotSet (n : Fin 16) : Finset S16x16x256.Idx := Finset.univ.filter fun i => (i 0).val = n.val

theorem mem_slotSet {n : Fin 16} {i : S16x16x256.Idx} : i ∈ slotSet n ↔ (i 0).val = n.val := by
  unfold slotSet; rw [Finset.mem_filter]; exact and_iff_right (Finset.mem_univ _)

theorem slot_disjoint {n n' : Fin 16} (h : n ≠ n') : Disjoint (slotSet n) (slotSet n') :=
  Finset.disjoint_left.mpr fun i hi hi' => h (Fin.ext ((mem_slotSet.mp hi).symm.trans (mem_slotSet.mp hi')))

/-- The slots make up the buffer. -/
theorem slot_cover : Finset.univ.biUnion slotSet = Finset.univ := by
  ext i
  simp only [Finset.mem_biUnion, Finset.mem_univ, true_and, iff_true]
  exact ⟨⟨(i 0).val, (i 0).isLt⟩, mem_slotSet.mpr rfl⟩

/-- The rectangle of one block at offset `![n, 0, 0]` is slot `n`. -/
theorem rect_slot (n : Fin 16) (off : Fin 3 → ℕ) (h : off = ![n.val, 0, 0]) (inb) :
    (Rect.unit (s := S16x16x256) off S1x16x256.size inb).set = slotSet n := by
  subst h
  ext i
  rw [Rect.mem_set_unit, mem_slotSet]
  constructor
  · intro hi
    have := hi 0
    simp only [Matrix.cons_val_zero, S1x16x256] at this
    omega
  · intro hi a
    have h1 : (i 1).val < 16 := (i 1).isLt
    have h2 : (i 2).val < 256 := (i 2).isLt
    match a with
    | 0 => simp only [Matrix.cons_val_zero, S1x16x256]; omega
    | 1 => exact ⟨Nat.zero_le _, by show (i 1).val < 0 + 16; omega⟩
    | 2 => exact ⟨Nat.zero_le _, by show (i 2).val < 0 + 256; omega⟩

/-- The barrier semaphore, the send semaphores and the receive semaphores. -/
abbrev barS : Sem sig := (SemArray.scalar (sig.barrier 0 rfl) : Sems sig S_).sem
def sendS (k : Fin 15) : DmaSem sig := ⟨6 + k.val, by have := k.isLt; show 6 + k.val < 37; omega⟩
def recvS (k : Fin 15) : DmaSem sig := ⟨22 + k.val, by have := k.isLt; show 22 + k.val < 37; omega⟩

/-- The semaphores of one device the protocol runs on: the barrier, fifteen send, fifteen receive. -/
abbrev Kc : Type := Unit ⊕ (Fin 15 ⊕ Fin 15)

abbrev osem : Fin 15 ⊕ Fin 15 → SemLoc sig
  | .inl k => .dma (sendS k)
  | .inr k => .dma (recvS k)
abbrev csem : Kc → SemLoc sig
  | .inl _ => .reg barS
  | .inr x => osem x
abbrev kcell (cx : Dev nD × Kc) : GSem nD τ sig := ((cx.1 : Thread nD τ), csem cx.2)

abbrev barCell (c : Dev nD) : GSem nD τ sig := kcell (c, .inl ())
abbrev sendCell (c : Dev nD) (k : Fin 15) : GSem nD τ sig := kcell (c, .inr (.inl k))
abbrev recvCell (c : Dev nD) (k : Fin 15) : GSem nD τ sig := kcell (c, .inr (.inr k))

/-- Which of the protocol's semaphores a semaphore is, if any. -/
def role : SemLoc sig → Option Kc
  | .reg _ => some (.inl ())
  | .dma q =>
    if h : 6 ≤ q.val ∧ q.val < 21 then some (.inr (.inl ⟨q.val - 6, by omega⟩))
    else if h : 22 ≤ q.val ∧ q.val < 37 then some (.inr (.inr ⟨q.val - 22, by omega⟩))
    else none

theorem role_csem (x : Kc) : role (csem x) = some x := by
  revert x; decide +kernel

theorem csem_injective : Function.Injective csem := fun x y h =>
  Option.some.inj ((role_csem x).symm.trans ((congrArg role h).trans (role_csem y)))

theorem kcell_injective : Function.Injective kcell := by
  rintro ⟨c, x⟩ ⟨c', x'⟩ h
  have h1 : c = c' := congrArg (fun g : GSem nD τ sig => g.1.1) h
  have h2 : x = x' := csem_injective (congrArg Prod.snd h)
  rw [h1, h2]

/-- What one block's transfer counts on its two semaphores. -/
abbrev N : ℕ := sig.dmaCredit .tc (Kind.table .tc .vmem) 6 S1x16x256 .f32

theorem N_pos : 0 < N := sig.dmaCredit_pos _ _ _ _ _ (by decide)

/-! ## The resource algebra: the staging's rounds and the exchange's, whose duties are named by steps -/

abbrev UX : Type := URounds (GSem nD τ sig) (Fin 15)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## Contents -/

/-- The blocks of the four arguments a device's staging buffers hold. -/
def xAt (c : Dev nD) : (cc0_stg0_0 : Ref sig .tc).ty.Contents (Elt F) :=
  (win0_0.blk (0 : Fin 1)).view.read (Elt F) (m ((c : Thread nD τ).loc main_arg0))
def rwAt (c : Dev nD) : (cc0_stg1_0 : Ref sig .tc).ty.Contents (Elt F) :=
  (win0_1.blk (0 : Fin 1)).view.read (Elt F) (m ((c : Thread nD τ).loc main_arg1))
def idxAt (c : Dev nD) : (cc0_stg2_0 : Ref sig .tc).ty.Contents (Elt F) :=
  (win0_2.blk (0 : Fin 1)).view.read (Elt F) (m ((c : Thread nD τ).loc main_arg2))
def ewAt (c : Dev nD) : (cc0_stg3_0 : Ref sig .tc).ty.Contents (Elt F) :=
  (win0_3.blk (0 : Fin 1)).view.read (Elt F) (m ((c : Thread nD τ).loc main_arg3))

/-- The kernel's word for its device. -/
abbrev devWord (c : Dev nD) : BitVec 32 := Scalar.remsi (Scalar.divsi (Dev.word c) 1#32) 16#32

/-- The router's probabilities. -/
def probAt (c : Dev nD) : FVec F S256x32 .f32 := k0_pay2 (xAt m c) (rwAt m c)
/-- The two columns of chosen experts. -/
def colAt (c : Dev nD) (a : Fin 2) : Vec F S256x1 .i32 := fun i => idxAt m c (fun | 0 => i 0 | 1 => a)
/-- A device's two experts. -/
def expAt (c : Dev nD) (l : Fin 2) : Vec F S1x128x256 .f32 := fun i => ewAt m c (fun | 0 => l | 1 => i 1 | 2 => i 2)

/-- The partial result device `c` computes, as its accumulator holds it. -/
def accAt (c : Dev nD) : (cc0_scratch0 : Ref sig .tc).ty.Contents (Elt F) :=
  k0_pay12 (k0_pay1 (xAt m c)) (k0_pay4 (colAt m c 1)) (k0_pay8 (probAt m c) (colAt m c 0) (colAt m c 1))
    (k0_pay9 (probAt m c) (colAt m c 0) (colAt m c 1))
    (k0_pay10 (devWord c) (k0_pay1 (xAt m c)) (probAt m c) (colAt m c 0) (colAt m c 1) (expAt m c 0))
    (Scalar.addi (Scalar.muli (devWord c) 2#32) 1#32) (k0_pay11 (devWord c) (colAt m c 0))
    (Scalar.ofBits .f32 0x00000000#32) (expAt m c 1)

/-- The device whose block lands in slot `n` of device `c`'s landing buffer: `n` devices back. -/
def srcOf (c : Dev nD) (n : Fin 16) : Dev nD := ⟨(c.val + 16 - n.val) % 16, Nat.mod_lt _ (by decide)⟩

theorem srcOf_fwd (c : Dev nD) (k : Fin 15) : srcOf (fwd c k) k.succ = c := by
  revert c k; decide +kernel

/-- What the landing buffer of device `c` holds in the end: zeros in slot 0, in slot `n` the block for `c` of the
    device `n` back. -/
def landAt (c : Dev nD) : (cc0_scratch1 : Ref sig .tc).ty.Contents (Elt F) := fun i =>
  if (i 0).val = 0 then Scalar.ofBits .f32 0x00000000#32
  else accAt m (srcOf c (i 0)) (elemAt c (i 1) (i 2))

/-- Slot `c` of the accumulator, as the kernel loads it in the end. -/
def ownAt (c : Dev nD) : Vec F S1x16x256 .f32 := fun i => accAt m c (elemAt c (i 1) (i 2))

/-- The device's rows of the result. -/
def outAt (c : Dev nD) : (cc0_stg4_0 : Ref sig .tc).ty.Contents (Elt F) := k0_pay14 (ownAt m c) (landAt m c)

/-! ## Ownership of slots -/

/-- Slot `n` of device `c`'s accumulator at contents `f` of the whole, and of its landing buffer. -/
def accPts (c : Dev nD) (n : Fin 16) (f : Buf (Elt F) ((c : Thread nD τ).loc cc0_scratch0)) : sProp 𝕄 :=
  ((c : Thread nD τ).loc cc0_scratch0) ↦[slotSet n]{fullShare} f
def recvPts (c : Dev nD) (n : Fin 16) (f : Buf (Elt F) ((c : Thread nD τ).loc cc0_scratch1)) : sProp 𝕄 :=
  ((c : Thread nD τ).loc cc0_scratch1) ↦[slotSet n]{fullShare} f

omit [FloatOps F] in
instance accPts_storable (c : Dev nD) (n) (f) : BI.Storable (upEmb : UEmb _ 𝕄) (accPts (F := F) c n f) := by
  unfold accPts; infer_instance
omit [FloatOps F] in
instance recvPts_storable (c : Dev nD) (n) (f) : BI.Storable (upEmb : UEmb _ 𝕄) (recvPts (F := F) c n f) := by
  unfold recvPts; infer_instance

/-! ## The schedule -/

/-- What `fwd c d`'s signal hands `c`: the slot of `fwd c d` that `c` writes, and that the receive semaphore of
    that slot is at its start. -/
def barPay (c : Dev nD) (d : Fin 15) : sProp 𝕄 :=
  iprop((∃ f, recvPts (fwd c d) d.succ f) ∗ reached EX (recvCell (fwd c d) d) 0)

/-- What each semaphore's one round hands its device, by duty. -/
def payOf (c : Dev nD) : Kc → Fin 15 → sProp 𝕄
  | .inl _, d => barPay c d
  | .inr (.inl k), _ => accPts c (fwd c k) (accAt m c)
  | .inr (.inr k), _ => recvPts c k.succ (landAt m c)

instance payOf_storable (c : Dev nD) (x : Kc) (d : Fin 15) :
    BI.Storable (upEmb : UEmb _ 𝕄) (payOf (F := F) m c x d) := by
  match x with
  | .inl _ => unfold payOf barPay; infer_instance
  | .inr (.inl k) => unfold payOf; infer_instance
  | .inr (.inr k) => unfold payOf; infer_instance

/-- The barrier has one duty per step, the other semaphores one in all. -/
def dutiesOf : Kc → Finset (Fin 15)
  | .inl _ => Finset.univ
  | .inr _ => {0}
def amountOf : Kc → ℕ
  | .inl _ => 1
  | .inr _ => N

/-- One round, round 0, on each device's semaphores. -/
def rd : Rounds.Schedule (GSem nD τ sig) (Fin 15) 𝕄 where
  duties g r := if r = 0 ∧ g.1.2 = .tc then (role g.2).elim ∅ dutiesOf else ∅
  unitless _ := False
  amount g _ _ := (role g.2).elim 1 amountOf
  payload g _ d := (role g.2).elim iprop(emp) fun x => payOf m g.1.1 x d
  amount_pos g _ _ _ := by
    cases role g.2 with
    | none => exact Nat.one_pos
    | some x => cases x with
      | inl _ => exact Nat.one_pos
      | inr _ => exact N_pos

instance rd_payload_storable (g : GSem nD τ sig) (r : ℕ) (d : Fin 15) :
    BI.Storable (upEmb : UEmb _ 𝕄) ((rd (F := F) m).payload g r d) := by
  show BI.Storable upEmb ((role g.2).elim iprop(emp) fun x => payOf m g.1.1 x d)
  cases role g.2 with
  | none => exact (inferInstance : BI.Storable upEmb (iprop(emp) : sProp 𝕄))
  | some x => exact payOf_storable m g.1.1 x d

section Tables

variable (c : Dev nD) (x : Kc)

theorem duties_cell : (rd (F := F) m).duties (kcell (c, x)) 0 = dutiesOf x := by
  dsimp only [rd]; rw [if_pos ⟨rfl, rfl⟩, role_csem]; rfl
theorem mem_duties {d : Fin 15} (h : d ∈ dutiesOf x) : d ∈ (rd (F := F) m).duties (kcell (c, x)) 0 :=
  (duties_cell m c x).symm ▸ h
theorem duties_later (g : GSem nD τ sig) (r : ℕ) (h : 1 ≤ r) : (rd (F := F) m).duties g r = ∅ := by
  dsimp only [rd]; rw [if_neg (fun h' => by omega)]
theorem amount_cell (r : ℕ) (d : Fin 15) : (rd (F := F) m).amount (kcell (c, x)) r d = amountOf x := by
  dsimp only [rd]; rw [role_csem]; rfl
theorem payload_cell (r : ℕ) (d : Fin 15) : (rd (F := F) m).payload (kcell (c, x)) r d = payOf m c x d := by
  dsimp only [rd]; rw [role_csem]; rfl
theorem expect_cell : (rd (F := F) m).expect (kcell (c, x)) 0 = (dutiesOf x).card * amountOf x := by
  unfold Schedule.expect Schedule.amountOf
  rw [duties_cell, Finset.sum_congr rfl fun d _ => amount_cell m c x 0 d, Finset.sum_const, smul_eq_mul]
theorem expect_bar : (rd (F := F) m).expect (barCell c) 0 = 15 := by rw [expect_cell]; rfl
theorem expect_xfer (y : Fin 15 ⊕ Fin 15) : (rd (F := F) m).expect (kcell (c, .inr y)) 0 = N := by
  rw [expect_cell]; exact (congrArg (· * N) (Finset.card_singleton _)).trans (Nat.one_mul _)
/-- The barrier's round as a whole: every step's payload. -/
theorem rest_bar : bigSep ((rd (F := F) m).duties (barCell c) 0 \ ∅) (fun d => (rd (F := F) m).payload (barCell c) 0 d)
    = bigSep Finset.univ (barPay (F := F) c) := by
  rw [Finset.sdiff_empty, duties_cell]
  exact bigSep_congr fun d _ => payload_cell m c (.inl ()) 0 d
/-- A send or receive semaphore's round: its one payload. -/
theorem rest_xfer (y : Fin 15 ⊕ Fin 15) :
    bigSep ((rd (F := F) m).duties (kcell (c, .inr y)) 0 \ ∅) (fun d => (rd (F := F) m).payload (kcell (c, .inr y)) 0 d)
      = payOf m c (.inr y) 0 := by
  rw [Finset.sdiff_empty, duties_cell, show dutiesOf (.inr y) = {0} from rfl, bigSep_singleton, payload_cell]

end Tables

/-! ## What a device owes; the levels -/

/-- The fifteen steps, in the order every loop of the kernel takes them. -/
abbrev steps : List (Fin 15) := [0, 1, 2, 3, 4, 5, 6, 7, 8, 9, 10, 11, 12, 13, 14]
/-- The same from the last to the first. -/
abbrev stepsBack : List (Fin 15) := [14, 13, 12, 11, 10, 9, 8, 7, 6, 5, 4, 3, 2, 1, 0]

/-- A debt of `n` to the semaphore `cell k` for each listed step `k`. -/
def owed (cell : Fin 15 → GSem nD τ sig) (n : ℕ) : List (Fin 15) → CellTallies nD τ sig Unit
  | [] => 0
  | k :: ks => owed cell n ks + tallyAt (cell k) () n

/-- A unit on the barrier of the device each listed step leads to. -/
def owedBar (c : Dev nD) (ks : List (Fin 15)) : CellTallies nD τ sig Unit := owed (fun k => barCell (fwd c k)) 1 ks
/-- A block's count on the receive semaphore of each listed step. -/
def owedRecv (c : Dev nD) (ks : List (Fin 15)) : CellTallies nD τ sig Unit := owed (fun k => recvCell (fwd c k) k) N ks
/-- At launch: all of both. -/
def O₀ (c : Dev nD) : CellTallies nD τ sig Unit := owedRecv c steps + owedBar c steps

/-- The debt for all steps, as a sum. -/
theorem owed_steps (cell : Fin 15 → GSem nD τ sig) (n : ℕ) : owed cell n steps = ∑ k, tallyAt (cell k) () n := by
  have e (ks : List (Fin 15)) : owed cell n ks = (ks.map fun k => tallyAt (cell k) () n).sum := by
    induction ks with
    | nil => rfl
    | cons k ks ih => rw [owed, ih, List.map_cons, List.sum_cons, add_comm]
  rw [e, ← List.sum_toFinset _ (by decide)]
  exact Finset.sum_congr (by decide) fun _ _ => rfl

/-- The one index of each TensorCore semaphore; the levels: the receive semaphores above the barrier, it above the rest. -/
def L (g : GSem nD τ sig) : Finset Unit := if g.1.2 = .tc then {()} else ∅
def levelOf : Kc → ℕ
  | .inl _ => 1
  | .inr (.inl _) => 0
  | .inr (.inr _) => 2
def lv (g : GSem nD τ sig) (_ : Unit) : ℕ := (role g.2).elim 0 levelOf

theorem L_of_ne (g : GSem nD τ sig) (h : g.1.2 ≠ .tc) : L g = ∅ := if_neg h
theorem L_tc (c : Dev nD) (sm : SemLoc sig) : L ((c : Thread nD τ), sm) = {()} := if_pos rfl
theorem lv_cell (cx : Dev nD × Kc) : lv (kcell cx) () = levelOf cx.2 := by
  unfold lv; rw [role_csem]; rfl

theorem owed_pos {cell : Fin 15 → GSem nD τ sig} {n : ℕ} {ks : List (Fin 15)} {g : GSem nD τ sig} {u : Unit}
    (h : 0 < owed cell n ks g u) : ∃ k, g = cell k := by
  induction ks with
  | nil => exact absurd h (Nat.lt_irrefl 0)
  | cons k ks ih =>
    rw [owed, Pi.add_apply, Finsupp.add_apply, tallyAt_apply] at h
    by_cases hg : g = cell k
    · exact ⟨k, hg⟩
    · rw [if_neg fun e => hg e.1, Nat.add_zero] at h
      exact ih h

theorem O₀_pos {c : Dev nD} {g : GSem nD τ sig} {u : Unit} (h : 0 < O₀ c g u) :
    (∃ k, g = recvCell (fwd c k) k) ∨ ∃ k, g = barCell (fwd c k) := by
  unfold O₀ at h
  rw [Pi.add_apply, Finsupp.add_apply] at h
  rcases Nat.eq_zero_or_pos (owedRecv c steps g u) with h0 | h0
  · rw [h0, Nat.zero_add] at h; exact .inr (owed_pos h)
  · exact .inl (owed_pos h0)

/-- A wait on a staging semaphore is below everything a device owes. -/
theorem mayWait_stage (c : Dev nD) (q : DmaSem sig) (hq : role (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by rw [Finset.mem_singleton.mp hp]; dsimp only [lv]; rw [hq]; exact Nat.le_refl 0)
      (fun g u hg => by
        rcases O₀_pos hg with ⟨k, rfl⟩ | ⟨k, rfl⟩ <;> rw [lv_cell]
        · exact Nat.zero_lt_succ 1
        · exact Nat.zero_lt_succ 0)
  · rw [MayWait_zero]; iintro -; iempintro

/-- At the barrier a device owes receive semaphores only, which are above it. -/
theorem mayWait_bar (c : Dev nD) : (levAts L lv : sProp 𝕄) ⊢ MayWait (c : Thread nD τ) (.reg barS) () (owedRecv c steps) :=
  MayOwe.of_cut (L := L) (lev := lv) 1 (fun p hp => by rw [Finset.mem_singleton.mp hp, L_tc]; exact Finset.mem_singleton_self _)
    (fun g u hg => by obtain ⟨k, rfl⟩ := owed_pos hg; exact Finset.mem_singleton_self _)
    (fun p hp => by rw [Finset.mem_singleton.mp hp]; exact (lv_cell (c, .inl ())).le)
    (fun g u hg => by obtain ⟨k, rfl⟩ := owed_pos hg; rw [lv_cell]; exact Nat.one_lt_two)

end Cert.KernelIdeal.Exchange

end
-- ==== Proof.Steps.lean ====
/- The steps of the body's four loops — the signals, the transfers, the waits for arrivals, the waits for
   departures —, each stated once, for a step `k` of the fifteen. A loop's state between two steps is what the
   steps to come still need and what those taken have left. -/
module

public import proofs.«01_k».proof.Proof.Protocol

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A resource for each listed step -/

/-- `A k` for every step `k` of the list. -/
def each (A : Fin 15 → sProp 𝕄) : List (Fin 15) → sProp 𝕄
  | [] => iprop(emp)
  | k :: ks => iprop(A k ∗ each A ks)

omit [FloatOps F] in
theorem each_eq (A : Fin 15 → sProp 𝕄) (ks : List (Fin 15)) (h : ks.Nodup) : each A ks = bigSep ks.toFinset A := by
  induction ks with
  | nil => rfl
  | cons k ks ih =>
    rw [each, ih h.of_cons, List.toFinset_cons, bigSep_insert (by rw [List.mem_toFinset]; exact (List.nodup_cons.mp h).1)]
    rfl
omit [FloatOps F] in
/-- For all the steps, in either order. -/
theorem each_steps (A : Fin 15 → sProp 𝕄) : each A steps = bigSep Finset.univ A :=
  (each_eq A _ (by decide)).trans (congrArg (bigSep · A) (by decide))
omit [FloatOps F] in
theorem each_stepsBack (A : Fin 15 → sProp 𝕄) : each A stepsBack = bigSep Finset.univ A :=
  (each_eq A _ (by decide)).trans (congrArg (bigSep · A) (by decide))

omit [FloatOps F] in
/-- An entailment, to leave the proof mode by. -/
theorem enter {P W : sProp 𝕄} (h : P ⊢ W) : P ⊢ W := h

variable (m : (ℓ : Loc nD τ sig) → Buf (Elt F) ℓ)
variable (K : Dev nD × Kc → ℕ)

/-! ## What all devices know -/

/-- Every semaphore's invariant, and that it is at its start. -/
def records : sProp 𝕄 :=
  bigSep Finset.univ fun cx => iprop(cellInv EX (rd m) (K cx) (kcell cx) ∗ reached EX (kcell cx) 0)

instance records_persistent : BI.Persistent (records m K) := by unfold records; infer_instance

theorem inv_at (cx : Dev nD × Kc) : (records m K : sProp 𝕄) ⊢ cellInv EX (rd m) (K cx) (kcell cx) := by
  unfold records
  rw [bigSep_univ_at _ cx]
  iintro ⟨⟨H, -⟩, -⟩; iexact H
theorem reached_at (cx : Dev nD × Kc) : (records m K : sProp 𝕄) ⊢ reached EX (kcell cx) 0 := by
  unfold records
  rw [bigSep_univ_at _ cx]
  iintro ⟨⟨-, H⟩, -⟩; iexact H

abbrev 𝒱₀ : Variants := Variants.none

/-! ## The signals -/

/-- What a signal needs: the duty it pays and the slot it hands over. -/
def sigNeed (c : Dev nD) (k : Fin 15) : sProp 𝕄 :=
  iprop(dutyTok EX (barCell (fwd c k)) 0 k.rev ∗ ∃ f, recvPts c k.rev.succ f)

/-- With the signals `ks` to come. -/
def sigSt (c : Dev nD) (ks : List (Fin 15)) : sProp 𝕄 :=
  iprop((∃ W, owes (c : Thread nD τ) (owedRecv c steps + owedBar c ks) W) ∗ each (sigNeed c) ks)

/-- The payload of the duty `c`'s signal pays at `fwd c k`, in terms of `c`. -/
theorem payload_sig (c : Dev nD) (k : Fin 15) : (rd m).payload (barCell (fwd c k)) 0 k.rev
    = iprop((∃ f, recvPts c k.rev.succ f) ∗ reached EX (recvCell c k.rev) 0) := by
  refine (payload_cell m (fwd c k) (.inl ()) 0 k.rev).trans ?_
  show barPay (fwd c k) k.rev = _
  unfold barPay; rw [fwd_fwd_rev]

/-- The signal to the device `k + 1` further on. -/
theorem step_signal (c : Dev nD) (k : Fin 15) (ks : List (Fin 15)) (R : sProp 𝕄) (n : Dev nD) (hn : n = fwd c k)
    {α : Type} {Q : α → sProp 𝕄} {kk : PUnit → Prog (TpuEff nD τ sig (Elt F) Λ₀ .tc) α}
    (next : iprop(records m K ∗ sigSt c ks ∗ R) ⊢ wp frame (wpE (defs₀ (F := F)) 𝒱₀ (c : Thread nD τ) none) Set.univ (kk ⟨⟩) Q) :
    iprop(records m K ∗ sigSt c (k :: ks) ∗ R)
      ⊢ wp frame (wpE (defs₀ (F := F)) 𝒱₀ (c : Thread nD τ) none) Set.univ
          (.op (.semSignal (n, .tc) barS (1#32 : BitVec 32).toInt) kk) Q := by
  subst hn
  rw [sigSt, each, sigNeed]
  iintro ⟨#Hrec, ⟨⟨%W, HO⟩, ⟨Htok, Hslot⟩, Hks⟩, HR⟩
  iapply (Rounds.wp_signal 𝒱₀ EX (rd m) (c : Thread nD τ) none (dst := (fwd c k : Thread nD τ)) (κ := K (fwd c k, .inl ()))
      (d := k.rev) (mem_duties m (fwd c k) (.inl ()) (Finset.mem_univ _)) (k' := 1) (O₀ := owedRecv c steps + owedBar c (k :: ks)) (amount_cell m (fwd c k) (.inl ()) 0 k.rev) ()
      (owedRecv c steps + owedBar c ks) (by rw [add_assoc]; rfl)) $$ [HO Htok Hslot]
  · isplitr; · iapply (inv_at m K (fwd c k, .inl ())); iexact Hrec
    isplitl [HO]; · iexact HO
    isplitl [Htok]; · iexact Htok
    isplitl [Hslot]
    · iapply (Entails.of_eq (payload_sig m c k).symm)
      isplitl [Hslot]; · iexact Hslot
      iapply (reached_at m K (c, .inr (.inr k.rev))); iexact Hrec
    iapply (reached_at m K (fwd c k, .inl ())); iexact Hrec
  iintro HO
  iapply next
  isplitr; · iexact Hrec
  isplitr [HR]
  · unfold sigSt
    isplitl [HO]; · iexists W; iexact HO
    iexact Hks
  iexact HR

/-! ## The transfers -/

/-- Slot `t` of the accumulator, and slot `n` of the landing buffer, as the kernel addresses them. -/
abbrev accSlot (off : Fin 3 → ℕ) (inb : ∀ a, off a + S1x16x256.size a ≤ S16x16x256.size a) : Memref sig .tc .vmem S1x16x256 .f32 :=
  accM.slice (Rect.unit (s := S16x16x256) off S1x16x256.size inb) (fun _ => rfl)
abbrev recvSlot (off : Fin 3 → ℕ) (inb : ∀ a, off a + S1x16x256.size a ≤ S16x16x256.size a) : Memref sig .tc .vmem S1x16x256 .f32 :=
  recvM.slice (Rect.unit (s := S16x16x256) off S1x16x256.size inb) (fun _ => rfl)

theorem accSlot_set (n : Fin 16) (off : Fin 3 → ℕ) (h : off = ![n.val, 0, 0]) (inb) : (accSlot off inb).view.set = slotSet n :=
  (View.set_slice_whole _ _).trans (rect_slot n off h inb)
theorem recvSlot_set (n : Fin 16) (off : Fin 3 → ℕ) (h : off = ![n.val, 0, 0]) (inb) : (recvSlot off inb).view.set = slotSet n :=
  (View.set_slice_whole _ _).trans (rect_slot n off h inb)

/-- A slot's ownership, as the kernel's view of the slot. -/
theorem accPts_slot (c : Dev nD) (n : Fin 16) (off : Fin 3 → ℕ) (h : off = ![n.val, 0, 0]) (inb) (f : Buf (Elt F) ((accSlot off inb).view.loc (c : Thread nD τ))) :
    (accPts c n f : sProp 𝕄) = ((accSlot off inb).view.loc (c : Thread nD τ) ↦[(accSlot off inb).view.set]{fullShare} f) := by
  rw [accSlot_set n off h inb]; rfl
theorem recvPts_slot (c : Dev nD) (n : Fin 16) (off : Fin 3 → ℕ) (h : off = ![n.val, 0, 0]) (inb) (f : Buf (Elt F) ((recvSlot off inb).view.loc (c : Thread nD τ))) :
    (recvPts c n f : sProp 𝕄) = ((recvSlot off inb).view.loc (c : Thread nD τ) ↦[(recvSlot off inb).view.set]{fullShare} f) := by
  rw [recvSlot_set n off h inb]; rfl

/-- The element of slot `n` at row `x 1`, column `x 2`. -/
theorem slot_emb (n : Fin 16) (off : Fin 3 → ℕ) (h : off = ![n.val, 0, 0]) (inb) (x : S1x16x256.Idx) :
    (Rect.unit (s := S16x16x256) off S1x16x256.size inb).emb x = elemAt n (x 1) (x 2) := by
  subst h
  funext a
  apply Fin.ext
  rw [Rect.emb_apply]
  match a with
  | 0 =>
    have h0 : (x 0).val < 1 := (x 0).isLt
    show n.val + 1 * (x 0).val = n.val
    omega
  | 1 => show 0 + 1 * (x 1).val = (x 1).val; omega
  | 2 => show 0 + 1 * (x 2).val = (x 2).val; omega

/-- The landing buffer's contents in slot `k + 1`. -/
theorem landAt_elem (c : Dev nD) (k : Fin 15) (a : Fin 16) (b : Fin 256) :
    landAt m c (elemAt k.succ a b) = accAt m (srcOf c k.succ) (elemAt c a b) :=
  if_neg (Nat.succ_ne_zero k.val)

/-- The block of `c` for `fwd c k`, written to slot `k + 1` there, makes it what `landAt` says. -/
theorem land_block (c : Dev nD) (k : Fin 15) (off off' : Fin 3 → ℕ) (inb) (inb')
    (h : off = ![(fwd c k).val, 0, 0]) (h' : off' = ![k.succ.val, 0, 0])
    (fd : Buf (Elt F) ((recvSlot off' inb').view.loc (fwd c k : Thread nD τ))) (i : S16x16x256.Idx) (hi : i ∈ slotSet k.succ) :
    (recvSlot off' inb').view.write (Elt F) fd ((accSlot off inb).view.read (Elt F) (accAt m c)) Finset.univ i = landAt m (fwd c k) i := by
  have hi' : i ∈ (recvSlot off' inb').view.set := by rw [recvSlot_set k.succ off' h' inb']; exact hi
  obtain ⟨x, -, rfl⟩ := Finset.mem_map.mp hi'
  refine (View.write_emb_of_mem _ _ (Finset.mem_univ x)).trans ?_
  have e : (recvSlot off' inb').view.emb x = elemAt k.succ (x 1) (x 2) := slot_emb k.succ off' h' inb' x
  have e' : (accSlot off inb).view.emb x = elemAt (fwd c k) (x 1) (x 2) := slot_emb (fwd c k) off h inb x
  refine (congrArg (accAt m c) e').trans (Eq.symm ?_)
  refine (congrArg (landAt m (fwd c k)) e).trans ((landAt_elem m (fwd c k) k (x 1) (x 2)).trans ?_)
  rw [srcOf_fwd]

/-- So the slot rewritten by the transfer is owned at its final contents. -/
theorem recv_block (c : Dev nD) (k : Fin 15) (off off' : Fin 3 → ℕ) (inb) (inb')
    (h : off = ![(fwd c k).val, 0, 0]) (h' : off' = ![k.succ.val, 0, 0])
    (fd : Buf (Elt F) ((recvSlot off' inb').view.loc (fwd c k : Thread nD τ))) :
    ((recvSlot off' inb').view.loc (fwd c k : Thread nD τ) ↦[(recvSlot off' inb').view.set]{fullShare}
        ((recvSlot off' inb').view.write (Elt F) fd ((accSlot off inb).view.read (Elt F) (accAt m c)) Finset.univ) : sProp 𝕄)
      = recvPts (fwd c k) k.succ (landAt m (fwd c k)) :=
  (recvPts_slot (fwd c k) k.succ off' h' inb' _).symm.trans
    (pointsTo_congr fun i hi => land_block m c k off off' inb inb' h h' fd i hi)

/-- What a transfer needs: the block, the slot it goes to, and the two duties it pays. -/
def sendNeed (c : Dev nD) (k : Fin 15) : sProp 𝕄 :=
  iprop(accPts c (fwd c k) (accAt m c) ∗ (∃ f, recvPts (fwd c k) k.succ f)
    ∗ dutyTok EX (sendCell c k) 0 0 ∗ dutyTok EX (recvCell (fwd c k) k) 0 0)
/-- What it leaves: the credit of the wait for its departure. -/
def sendLeft (c : Dev nD) (k : Fin 15) : sProp 𝕄 := cred (tallyAt (sendCell c k) () N)

/-- With the transfers `ks` to come and `js` made. -/
def sendSt (c : Dev nD) (js ks : List (Fin 15)) : sProp 𝕄 :=
  iprop((∃ W, owes (c : Thread nD τ) (owedRecv c ks) W) ∗ each (sendNeed m c) ks ∗ each (sendLeft (F := F) c) js)

/-- The rule of an addressed transfer, at the semaphores of step `k`. -/
theorem wp_send_block (c : Dev nD) (k : Fin 15) (ks : List (Fin 15)) (off off' : Fin 3 → ℕ) (inb) (inb')
    (h : off = ![(fwd c k).val, 0, 0]) (h' : off' = ![k.succ.val, 0, 0])
    {hsc : (recvSlot off' inb').view.ref.isScScratch = false} {hsrc : (accSlot off inb).view.WordExact} {hdst : (recvSlot off' inb').view.WordExact}
    {hsem : DmaTarget.Typed .vmem (.dma (recvS k)) (.remote (Dev.tc (fwd c k) : Thread nD τ) (recvSlot off' inb') (.dma (sendS k)) hsc)}
    {α : Type} {Q : α → sProp 𝕄} {kk : PUnit → Prog (TpuEff nD τ sig (Elt F) Λ₀ .tc) α}
    (fd : Buf (Elt F) ((recvSlot off' inb').view.loc (fwd c k : Thread nD τ))) (W : Waits sig Unit) :
    iprop(cellInv EX (rd m) (K (c, .inr (.inl k))) (sendCell c k) ∗ cellInv EX (rd m) (K (fwd c k, .inr (.inr k))) (recvCell (fwd c k) k)
        ∗ accPts c (fwd c k) (accAt m c) ∗ recvPts (fwd c k) k.succ fd
        ∗ owes (c : Thread nD τ) (owedRecv c (k :: ks)) W
        ∗ dutyTok EX (sendCell c k) 0 0 ∗ reached EX (sendCell c k) 0
        ∗ dutyTok EX (recvCell (fwd c k) k) 0 0 ∗ reached EX (recvCell (fwd c k) k) 0)
      ⊢ iprop(((cred (tallyAt (sendCell c k) () N) ∗ owes (c : Thread nD τ) (owedRecv c ks) W)
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma (accSlot off inb) (.remote (Dev.tc (fwd c k) : Thread nD τ) (recvSlot off' inb') (.dma (sendS k)) hsc) (.dma (recvS k)) hsrc hdst hsem) kk) Q) := by
  rw [accPts_slot c (fwd c k) off h inb (accAt m c), recvPts_slot (fwd c k) k.succ off' h' inb' fd]
  have departs := Entails.of_eq ((accPts_slot c (fwd c k) off h inb (accAt m c)).symm.trans (payload_cell m c (.inr (.inl k)) 0 0).symm)
  have arrives := Entails.of_eq ((recv_block m c k off off' inb inb' h h' fd).trans (payload_cell m (fwd c k) (.inr (.inr k)) 0 0).symm)
  have dutyS := mem_duties m c (.inr (.inl k)) (Finset.mem_singleton_self 0)
  have dutyR := mem_duties m (fwd c k) (.inr (.inr k)) (Finset.mem_singleton_self 0)
  have amountN : (recvSlot off' inb').view.amount (.dma (recvS k)) = N := rfl
  have amountS := amount_cell m c (.inr (.inl k)) 0 0
  have amountR := amount_cell m (fwd c k) (.inr (.inr k)) 0 0
  have rule := Rounds.wp_send_pointsTo (defs := defs₀ (F := F)) (Q := Q) (k := kk) (Γ := .empty) (hsc := hsc) (hsrc := hsrc) (hdst := hdst)
    (hsem := hsem) 𝒱₀ EX (rd m) (c : Thread nD τ) none (κ₁ := K (c, .inr (.inl k))) (κ₂ := K (fwd c k, .inr (.inr k)))
    (r₁ := 0) (r₂ := 0) (d₁ := 0) (d₂ := 0) (fs := accAt m c) (fd := fd) dutyS dutyR () () N amountN amountS amountR
    (owedRecv c ks) rfl (W := W) departs arrives (Es := Set.univ)
  exact rule

/-- The transfer to the device `k + 1` further on. -/
theorem step_send (c : Dev nD) (k : Fin 15) (js ks : List (Fin 15)) (R : sProp 𝕄) (n : Dev nD) (hn : n = fwd c k) (off off' : Fin 3 → ℕ) (inb) (inb')
    (h : off = ![(fwd c k).val, 0, 0]) (h' : off' = ![k.succ.val, 0, 0]) (sS sR : DmaSem sig) (hS : sS = sendS k) (hR : sR = recvS k)
    {hsc : (recvSlot off' inb').view.ref.isScScratch = false} {hsrc : (accSlot off inb).view.WordExact} {hdst : (recvSlot off' inb').view.WordExact}
    {hsem : DmaTarget.Typed .vmem (.dma sR) (.remote (Dev.tc n : Thread nD τ) (recvSlot off' inb') (.dma sS) hsc)}
    {α : Type} {Q : α → sProp 𝕄} {kk : PUnit → Prog (TpuEff nD τ sig (Elt F) Λ₀ .tc) α}
    (next : iprop(records m K ∗ sendSt m c (k :: js) ks ∗ R) ⊢ wp frame (wpE (defs₀ (F := F)) 𝒱₀ (c : Thread nD τ) none) Set.univ (kk ⟨⟩) Q) :
    iprop(records m K ∗ sendSt m c js (k :: ks) ∗ R)
      ⊢ wp frame (wpE (defs₀ (F := F)) 𝒱₀ (c : Thread nD τ) none) Set.univ
          (.op (.enqueueDma (accSlot off inb) (.remote (Dev.tc n : Thread nD τ) (recvSlot off' inb') (.dma sS) hsc) (.dma sR) hsrc hdst hsem) kk) Q := by
  subst hn hS hR
  rw [sendSt, each, sendNeed]
  iintro ⟨#Hrec, ⟨⟨%W, HO⟩, ⟨⟨Hacc, ⟨%fd, Hslot⟩, HtS, HtR⟩, Hks⟩, Hjs⟩, HR⟩
  iapply (wp_send_block m K c k ks off off' inb inb' h h' fd W) $$ [Hacc Hslot HO HtS HtR]
  · isplitr; · iapply (inv_at m K (c, .inr (.inl k))); iexact Hrec
    isplitr; · iapply (inv_at m K (fwd c k, .inr (.inr k))); iexact Hrec
    isplitl [Hacc]; · iexact Hacc
    isplitl [Hslot]; · iexact Hslot
    isplitl [HO]; · iexact HO
    isplitl [HtS]; · iexact HtS
    isplitr; · iapply (reached_at m K (c, .inr (.inl k))); iexact Hrec
    isplitl [HtR]; · iexact HtR
    iapply (reached_at m K (fwd c k, .inr (.inr k))); iexact Hrec
  iintro ⟨Hcr, HO⟩
  iapply next
  isplitr; · iexact Hrec
  isplitr [HR]
  · rw [sendSt, each]
    isplitl [HO]; · iexists W; iexact HO
    isplitl [Hks]; · iexact Hks
    isplitl [Hcr]; · unfold sendLeft; iexact Hcr
    iexact Hjs
  iexact HR

/-! ## The waits for arrivals and departures -/

/-- What a wait on the semaphores named by `y` needs: its credit and its position. -/
def waitNeed (y : Fin 15 → Fin 15 ⊕ Fin 15) (c : Dev nD) (k : Fin 15) : sProp 𝕄 :=
  iprop(cred (tallyAt (kcell (c, .inr (y k))) () N) ∗ atPos EX (kcell (c, .inr (y k))) 0 ∅ 0)
/-- What it leaves: the block the semaphore guarded, and the semaphore at zero. -/
def waitLeft (y : Fin 15 → Fin 15 ⊕ Fin 15) (c : Dev nD) (k : Fin 15) : sProp 𝕄 :=
  iprop(payOf m c (.inr (y k)) 0 ∗ semVal (kcell (c, .inr (y k))) 0)

/-- With the waits `ks` to come and `js` made. -/
def waitSt (y : Fin 15 → Fin 15 ⊕ Fin 15) (c : Dev nD) (js ks : List (Fin 15)) : sProp 𝕄 :=
  iprop((∃ W, owes (c : Thread nD τ) 0 W) ∗ each (waitNeed (F := F) y c) ks ∗ each (waitLeft m y c) js)

/-- The wait on the semaphore of step `k`, for one block. -/
theorem step_wait (y : Fin 15 → Fin 15 ⊕ Fin 15) (c : Dev nD) (k : Fin 15) (js ks : List (Fin 15)) (R : sProp 𝕄) (q : DmaSem sig) (hq : SemLoc.dma q = osem (y k))
    {sp' : Space} {s' : Shape} {e' : EltTy} {src : Memref sig .tc sp' s' e'} {dst : Memref sig .tc .vmem S1x16x256 .f32}
    (hd : dst.view.dmaCredit = N) {hsrc : src.view.WordExact} {hdst : dst.view.WordExact}
    {α : Type} {Q : α → sProp 𝕄} {kk : PUnit → Prog (TpuEff nD τ sig (Elt F) Λ₀ .tc) α}
    (next : iprop(records m K ∗ waitSt m y c (k :: js) ks ∗ R) ⊢ wp frame (wpE (defs₀ (F := F)) 𝒱₀ (c : Thread nD τ) none) Set.univ (kk ⟨⟩) Q) :
    iprop(records m K ∗ waitSt m y c js (k :: ks) ∗ R)
      ⊢ wp frame (wpE (defs₀ (F := F)) 𝒱₀ (c : Thread nD τ) none) Set.univ (.op (.waitDma2 q src dst hsrc hdst) kk) Q := by
  rw [waitSt, each, waitNeed]
  iintro ⟨#Hrec, ⟨⟨%W, HO⟩, ⟨⟨Hcr, Hat⟩, Hks⟩, Hjs⟩, HR⟩
  iapply (Rounds.wp_wait_rest_token 𝒱₀ EX (rd m) (c : Thread nD τ) none (sm := osem (y k)) (k' := N) (κ := K (c, .inr (y k)))
      (fun Kt => by rw [wpE_waitDma2_eq 𝒱₀ (c : Thread nD τ) none Set.univ, hq, hd]) (Set.mem_univ _) () (O := 0) (W := W) (R := 0) (m := 0) (T := ∅)
      ((Nat.zero_add N).trans (expect_xfer m c (y k)).symm)) $$ [Hcr HO Hat]
  · isplitr; · iapply (inv_at m K (c, .inr (y k))); iexact Hrec
    isplitl [Hcr]; · iexact Hcr
    isplitl [HO]; · iexact HO
    isplitr; · rw [MayWait_zero]; iempintro
    iexact Hat
  iintro ⟨HO, Hat, -, Hpay⟩
  ihave Hp := (Entails.of_eq (rest_xfer m c (y k))) $$ Hpay
  imod (Rounds.cell_close EX (rd m) (Set.mem_univ (K (c, .inr (y k)))) (fun h => h) (R := 0 + 1) (duties_later m (kcell (c, .inr (y k))))) $$ [Hat] with Hz
  · isplitr; · iapply (inv_at m K (c, .inr (y k))); iexact Hrec
    iexact Hat
  iapply next
  isplitr; · iexact Hrec
  isplitr [HR]
  · rw [waitSt, each, waitLeft]
    isplitl [HO]; · iexists (insert (osem (y k), ()) W); iexact HO
    isplitl [Hks]; · iexact Hks
    isplitr [Hjs]
    · isplitl [Hp]; · iexact Hp
      iexact Hz
    iexact Hjs
  iexact HR

end Cert.KernelIdeal.Exchange

end
-- ==== Proof.Body.lean ====
/- The body of the kernel run once, on a device `c`: from the state the launch gives it to the one it leaves. -/
module

public import proofs.«01_k».proof.Proof.Steps

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Kc → ℕ)

/-! ## The two buffers, slot by slot -/

omit [FloatOps F] in
/-- A resource for each of sixteen, as that for one of them and those for the fifteen others, named by steps. -/
theorem bigSep_others (c : Fin 16) (e : Fin 15 → Fin 16) (inj : Function.Injective e) (ne : ∀ k, e k ≠ c)
    (all : ∀ d, d ≠ c → ∃ k, e k = d) (Φ : Fin 16 → sProp 𝕄) :
    bigSep Finset.univ Φ = iprop(Φ c ∗ bigSep Finset.univ fun k => Φ (e k)) := by
  have h : Finset.univ.erase c = Finset.univ.map ⟨e, inj⟩ := by
    ext d
    simp only [Finset.mem_erase, Finset.mem_univ, and_true, Finset.mem_map, true_and, Function.Embedding.coeFn_mk]
    exact ⟨all d, fun ⟨k, hk⟩ => hk ▸ ne k⟩
  rw [bigSep_univ_at Φ c, h, bigSep_map]
  rfl

/-- The accumulator: the slot a device keeps, and the slots it sends. -/
theorem acc_slots (c : Dev nD) (f : Buf (Elt F) ((c : Thread nD τ).loc cc0_scratch0)) :
    (((c : Thread nD τ).loc cc0_scratch0) ↦{fullShare} f : sProp 𝕄)
      = iprop(accPts c c f ∗ bigSep Finset.univ fun k => accPts c (fwd c k) f) :=
  (Ring.pointsTo_blocks (ℓ := (c : Thread nD τ).loc cc0_scratch0) slotSet (fun _ _ h => slot_disjoint h) slot_cover f).trans
    (bigSep_others c (fwd c) (fun _ _ h => fwd_inj c h) (fwd_ne c) (fun _ h => exists_fwd c h) _)

/-- The landing buffer: the slot its device zeroes, and the slots the others write. -/
theorem recv_slots (c : Dev nD) (f : Buf (Elt F) ((c : Thread nD τ).loc cc0_scratch1)) :
    (((c : Thread nD τ).loc cc0_scratch1) ↦{fullShare} f : sProp 𝕄)
      = iprop(recvPts c 0 f ∗ bigSep Finset.univ fun k : Fin 15 => recvPts c k.succ f) :=
  (Ring.pointsTo_blocks (ℓ := (c : Thread nD τ).loc cc0_scratch1) slotSet (fun _ _ h => slot_disjoint h) slot_cover f).trans
    (bigSep_others 0 Fin.succ (Fin.succ_injective 15) (fun k => Fin.succ_ne_zero k) (fun d h => Fin.exists_succ_eq.mpr h) _)

/-! ## What the loads read and the stores write -/

omit [FloatOps F] in
theorem zero2 : (![0, 0] : Fin 2 → Nat) = fun _ => 0 := funext fun a => by fin_cases a <;> rfl
omit [FloatOps F] in
theorem zero3 : (![0, 0, 0] : Fin 3 → Nat) = fun _ => 0 := funext fun a => by fin_cases a <;> rfl

/-- The whole of the input, and of the router's weights. -/
theorem read_x (c : Dev nD) (inb) :
    (Memref.whole cc0_stg0_0 : Memref sig .tc _ _ _).view.readAt (Elt F) (Rect.unit (s := S256x128) ![0, 0] S256x128.size inb).toLoadRect (xAt m c)
      = xAt m c :=
  Memref.readAt_unit_zero (Elt F) cc0_stg0_0 zero2 _ _
theorem read_rw (c : Dev nD) (inb) :
    (Memref.whole cc0_stg1_0 : Memref sig .tc _ _ _).view.readAt (Elt F) (Rect.unit (s := S128x32) ![0, 0] S128x32.size inb).toLoadRect (rwAt m c)
      = rwAt m c :=
  Memref.readAt_unit_zero (Elt F) cc0_stg1_0 zero2 _ _

/-- The whole of the landing buffer. -/
theorem read_land (c : Dev nD) (inb) :
    recvM.view.readAt (Elt F) (Rect.unit (s := S16x16x256) ![0, 0, 0] S16x16x256.size inb).toLoadRect (landAt m c) = landAt m c :=
  Memref.readAt_unit_zero (Elt F) cc0_scratch1 zero3 _ _

omit [FloatOps F] in
/-- The accumulator and the output are stored whole. -/
theorem write_acc (inb) (f w : (cc0_scratch0 : Ref sig .tc).ty.Contents (Elt F)) :
    ((accM.access (Rect.unit (s := S16x16x256) ![0, 0, 0] S16x16x256.size inb)) : View sig .tc _ _ _).write (Elt F) f w Finset.univ = w :=
  Memref.write_access_unit_zero_univ (Elt F) cc0_scratch0 zero3 _ f w
omit [FloatOps F] in
theorem write_out (inb) (f w : (cc0_stg4_0 : Ref sig .tc).ty.Contents (Elt F)) :
    (((Memref.whole cc0_stg4_0 : Memref sig .tc _ _ _).access (Rect.unit (s := S16x256) ![0, 0] S16x256.size inb)) : View sig .tc _ _ _).write (Elt F) f w Finset.univ = w :=
  Memref.write_access_unit_zero_univ (Elt F) cc0_stg4_0 zero2 _ f w

/-- A column of the chosen experts. -/
theorem read_col (c : Dev nD) (a : Fin 2) (off : Fin 2 → ℕ) (h : off = ![0, a.val]) (inb) :
    (Memref.whole cc0_stg2_0 : Memref sig .tc _ _ _).view.readAt (Elt F) (Rect.unit (s := S256x2) off S256x1.size inb).toLoadRect (idxAt m c)
      = colAt m c a := by
  subst h
  funext i
  refine congrArg (idxAt m c) (funext fun b => Fin.ext ?_)
  match b with
  | 0 => show 0 + 1 * (i 0).val = (i 0).val; omega
  | 1 =>
    have h1 : (i 1).val < 1 := (i 1).isLt
    show a.val + 1 * (i 1).val = a.val
    omega

/-- One of the device's experts. -/
theorem read_exp (c : Dev nD) (l : Fin 2) (off : Fin 3 → ℕ) (h : off = ![l.val, 0, 0]) (inb) :
    (Memref.whole cc0_stg3_0 : Memref sig .tc _ _ _).view.readAt (Elt F) (Rect.unit (s := S2x128x256) off S1x128x256.size inb).toLoadRect (ewAt m c)
      = expAt m c l := by
  subst h
  funext i
  refine congrArg (ewAt m c) (funext fun b => Fin.ext ?_)
  match b with
  | 0 =>
    have h0 : (i 0).val < 1 := (i 0).isLt
    show l.val + 1 * (i 0).val = l.val
    omega
  | 1 => show 0 + 1 * (i 1).val = (i 1).val; omega
  | 2 => show 0 + 1 * (i 2).val = (i 2).val; omega

/-- The slot of the accumulator that stays. -/
theorem read_own (c : Dev nD) (off : Fin 3 → ℕ) (h : off = ![c.val, 0, 0]) (inb) :
    accM.view.readAt (Elt F) (Rect.unit (s := S16x16x256) off S1x16x256.size inb).toLoadRect (accAt m c) = ownAt m c :=
  funext fun i => congrArg (accAt m c) (slot_emb c off h inb i)

/-- Zeros written to slot 0 make it what `landAt` says. -/
theorem zero_slot (c : Dev nD) (inb) (f : Buf (Elt F) ((c : Thread nD τ).loc cc0_scratch1)) (i : S16x16x256.Idx) (hi : i ∈ slotSet 0) :
    (recvSlot ![0, 0, 0] inb).view.write (Elt F) f (k0_pay13 (F := F)) Finset.univ i = landAt m c i := by
  have hi' : i ∈ (recvSlot ![0, 0, 0] inb).view.set := by rw [recvSlot_set 0 ![0, 0, 0] rfl inb]; exact hi
  have h0 : landAt m c i = Scalar.ofBits .f32 0x00000000#32 := if_pos (mem_slotSet.mp hi)
  obtain ⟨x, -, rfl⟩ := Finset.mem_map.mp hi'
  exact (View.write_emb_of_mem _ _ (Finset.mem_univ x)).trans h0.symm

theorem recv_zeroed (c : Dev nD) (inb) (f : Buf (Elt F) ((c : Thread nD τ).loc cc0_scratch1)) :
    ((recvM.access (Rect.unit (s := S16x16x256) ![0, 0, 0] S1x16x256.size inb)).loc (c : Thread nD τ) ↦[slotSet 0]{fullShare}
        ((recvM.access (Rect.unit (s := S16x16x256) ![0, 0, 0] S1x16x256.size inb)).write (Elt F) f (k0_pay13 (F := F)) Finset.univ) : sProp 𝕄)
      = recvPts c 0 (landAt m c) :=
  pointsTo_congr fun i hi => zero_slot m c inb f i hi

/-! ## What the body starts from and what it leaves -/

/-- The positions and duty tokens of a device. -/
def ghost (c : Dev nD) : sProp 𝕄 :=
  iprop(records m K
    ∗ (atPos EX (barCell c) 0 ∅ 0 ∗ (bigSep Finset.univ fun k => atPos EX (sendCell c k) 0 ∅ 0)
      ∗ bigSep Finset.univ fun k => atPos EX (recvCell c k) 0 ∅ 0)
    ∗ (bigSep Finset.univ fun k => dutyTok EX (barCell (fwd c k)) 0 k.rev) ∗ (bigSep Finset.univ fun k => dutyTok EX (sendCell c k) 0 0)
    ∗ bigSep Finset.univ fun k => dutyTok EX (recvCell (fwd c k) k) 0 0)

/-- With them the credits of the waits whose units other devices owe, and the levels. -/
def credits (c : Dev nD) : sProp 𝕄 :=
  iprop(cred (tallyAt (barCell c) () 15) ∗ (bigSep Finset.univ fun k => cred (tallyAt (recvCell c k) () N)) ∗ levAts L lv)

def start (c : Dev nD) : sProp 𝕄 := iprop((∃ K, ghost m K c) ∗ credits c)

/-- The two scratch buffers, at any contents. -/
def scratch (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

def Φ₀ (c : Dev nD) : sProp 𝕄 := iprop(start m c ∗ scratch c)
/-- At the end every semaphore of the protocol is back, at zero. -/
def Φ₁ (c : Dev nD) : sProp 𝕄 :=
  iprop(semVal (barCell c) 0 ∗ ((bigSep Finset.univ fun k => semVal (sendCell c k) 0) ∗ bigSep Finset.univ fun k => semVal (recvCell c k) 0)
    ∗ scratch c)

/-- The contents of the five staging buffers after the body. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m c
    | ⟨1, _⟩ => rwAt m c
    | ⟨2, _⟩ => idxAt m c
    | ⟨3, _⟩ => ewAt m c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- The four inputs' staging buffers. -/
def ins (c : Dev nD) : sProp 𝕄 :=
  iprop((((c : Thread nD τ).loc cc0_stg0_0) ↦{fullShare} xAt m c) ∗ (((c : Thread nD τ).loc cc0_stg1_0) ↦{fullShare} rwAt m c)
    ∗ (((c : Thread nD τ).loc cc0_stg2_0) ↦{fullShare} idxAt m c) ∗ (((c : Thread nD τ).loc cc0_stg3_0) ↦{fullShare} ewAt m c))
/-- The output's. -/
def out (c : Dev nD) (f : Buf (Elt F) ((c : Thread nD τ).loc cc0_stg4_0)) : sProp 𝕄 := ((c : Thread nD τ).loc cc0_stg4_0) ↦{fullShare} f

def bodyPre (c : Dev nD) : sProp 𝕄 :=
  iprop(ghost m K c ∗ credits c ∗ scratch c ∗ (∃ W, owes (c : Thread nD τ) (O₀ c) W) ∗ ins m c ∗ ∃ f, out c f)
def bodyPost (c : Dev nD) : sProp 𝕄 :=
  iprop(Φ₁ c ∗ (∃ W, owes (c : Thread nD τ) 0 W) ∗ ins m c ∗ out c (outAt m c))

/-! ## What is kept aside during each loop -/

/-- During the signals: what the transfers and the waits need, the accumulator and the slot not handed over. -/
def aside₁ (c : Dev nD) (f₀ : Buf (Elt F) ((c : Thread nD τ).loc cc0_scratch0)) (f₁ : Buf (Elt F) ((c : Thread nD τ).loc cc0_scratch1))
    (f : Buf (Elt F) ((c : Thread nD τ).loc cc0_stg4_0)) : sProp 𝕄 :=
  iprop((atPos EX (barCell c) 0 ∅ 0 ∗ (bigSep Finset.univ fun k => atPos EX (sendCell c k) 0 ∅ 0)
      ∗ bigSep Finset.univ fun k => atPos EX (recvCell c k) 0 ∅ 0)
    ∗ ((bigSep Finset.univ fun k => dutyTok EX (sendCell c k) 0 0) ∗ bigSep Finset.univ fun k => dutyTok EX (recvCell (fwd c k) k) 0 0)
    ∗ credits c ∗ (((c : Thread nD τ).loc cc0_scratch0) ↦{fullShare} f₀) ∗ recvPts c 0 f₁ ∗ ins m c ∗ out c f)

/-- During the transfers: what the waits need, the barrier semaphore, the slots kept. -/
def aside₂ (c : Dev nD) (f : Buf (Elt F) ((c : Thread nD τ).loc cc0_stg4_0)) : sProp 𝕄 :=
  iprop(((bigSep Finset.univ fun k => atPos EX (sendCell c k) 0 ∅ 0) ∗ bigSep Finset.univ fun k => atPos EX (recvCell c k) 0 ∅ 0)
    ∗ (bigSep Finset.univ fun k => cred (tallyAt (recvCell c k) () N))
    ∗ semVal (barCell c) 0 ∗ accPts c c (accAt m c) ∗ recvPts c 0 (landAt m c) ∗ ins m c ∗ out c f)

/-- During the waits for arrivals: what the waits for departures need. -/
def aside₃ (c : Dev nD) (f : Buf (Elt F) ((c : Thread nD τ).loc cc0_stg4_0)) : sProp 𝕄 :=
  iprop((bigSep Finset.univ fun k => waitNeed (F := F) Sum.inl c k)
    ∗ semVal (barCell c) 0 ∗ accPts c c (accAt m c) ∗ recvPts c 0 (landAt m c) ∗ ins m c ∗ out c f)

/-- During the waits for departures: the result, the landing buffer and its semaphores. -/
def aside₄ (c : Dev nD) : sProp 𝕄 :=
  iprop((bigSep Finset.univ fun k => semVal (recvCell c k) 0)
    ∗ semVal (barCell c) 0 ∗ accPts c c (accAt m c) ∗ (((c : Thread nD τ).loc cc0_scratch1) ↦{fullShare} landAt m c) ∗ ins m c ∗ out c (outAt m c))

/-! ## From one loop to the next -/

/-- The start of the signals. -/
theorem enter_signals (c : Dev nD) : bodyPre m K c
    ⊢ iprop(∃ f₀ f₁ f, records m K ∗ sigSt c steps ∗ aside₁ m c f₀ f₁ f) := by
  unfold bodyPre ghost scratch sigSt
  iintro ⟨⟨#Hrec, Hat, HtB, HtS, HtR⟩, Hcr, ⟨⟨%f₀, H0⟩, ⟨%f₁, H1⟩⟩, HO, Hins, ⟨%f, Hout⟩⟩
  iexists f₀; iexists f₁; iexists f
  ihave H1 := (Entails.of_eq (recv_slots c f₁)) $$ H1
  icases H1 with ⟨Hz, Hs⟩
  isplitr; · iexact Hrec
  isplitl [HO HtB Hs]
  · isplitl [HO]; · unfold O₀; iexact HO
    rw [each_steps]
    unfold sigNeed
    rw [bigSep_sep']
    isplitl [HtB]; · iexact HtB
    iapply ((Entails.of_eq (bigSep_univ_equiv Fin.revPerm fun k : Fin 15 => (recvPts c k.succ f₁ : sProp 𝕄))).trans
      (bigSep_mono fun k _ => show (recvPts c k.rev.succ f₁ : sProp 𝕄) ⊢ iprop(∃ f, recvPts c k.rev.succ f) by iintro H; iexists f₁; iexact H))
    iexact Hs
  unfold aside₁
  isplitl [Hat]; · iexact Hat
  isplitl [HtS HtR]
  · isplitl [HtS] <;> iassumption
  isplitl [Hcr]; · iexact Hcr
  isplitl [H0]; · iexact H0
  isplitl [Hz]; · iexact Hz
  isplitl [Hins] <;> iassumption

/-- What the transfers need, put together. -/
theorem enter_sends (c : Dev nD) :
    iprop((bigSep Finset.univ fun k => accPts c (fwd c k) (accAt m c)) ∗ bigSep Finset.univ (barPay (F := F) c)
      ∗ (bigSep Finset.univ fun k => dutyTok EX (sendCell c k) 0 0) ∗ bigSep Finset.univ fun k => dutyTok EX (recvCell (fwd c k) k) 0 0)
      ⊢ each (sendNeed m c) steps := by
  rw [each_steps, ← bigSep_sep', ← bigSep_sep', ← bigSep_sep']
  have one (k : Fin 15) : iprop(accPts c (fwd c k) (accAt m c) ∗ barPay (F := F) c k ∗ dutyTok EX (sendCell c k) 0 0
      ∗ dutyTok EX (recvCell (fwd c k) k) 0 0) ⊢ sendNeed m c k := by
    unfold sendNeed barPay
    iintro ⟨Ha, ⟨Hs, -⟩, HtS, HtR⟩
    isplitl [Ha]; · iexact Ha
    isplitl [Hs]; · iexact Hs
    isplitl [HtS] <;> iassumption
  exact bigSep_mono fun k _ => one k

/-- From the transfers to the waits for arrivals. -/
theorem enter_arrivals (c : Dev nD) (f : Buf (Elt F) ((c : Thread nD τ).loc cc0_stg4_0)) :
    iprop(records m K ∗ sendSt m c stepsBack [] ∗ aside₂ m c f) ⊢ iprop(records m K ∗ waitSt m Sum.inr c [] steps ∗ aside₃ m c f) := by
  unfold sendSt waitSt aside₂ aside₃ waitNeed
  rw [each_steps, each_stepsBack, bigSep_sep', bigSep_sep']
  iintro ⟨#Hrec, ⟨HO, -, Hleft⟩, ⟨HaS, HaR⟩, HcR, Hb, Ha, Hz, Hins, Hout⟩
  isplitr; · iexact Hrec
  isplitl [HO HaR HcR]
  · isplitl [HO]; · iexact HO
    isplitl [HaR HcR]
    · isplitl [HcR] <;> iassumption
    unfold each; iempintro
  isplitl [Hleft HaS]
  · isplitl [Hleft]; · iexact Hleft
    iexact HaS
  isplitl [Hb]; · iexact Hb
  isplitl [Ha]; · iexact Ha
  isplitl [Hz]; · iexact Hz
  isplitl [Hins] <;> iassumption

/-- After the arrivals: the landing buffer whole, its semaphores at zero. -/
theorem leave_arrivals (c : Dev nD) :
    iprop(each (waitLeft m Sum.inr c) stepsBack ∗ recvPts c 0 (landAt m c))
      ⊢ iprop((((c : Thread nD τ).loc cc0_scratch1) ↦{fullShare} landAt m c) ∗ bigSep Finset.univ fun k => semVal (recvCell c k) 0) := by
  rw [each_stepsBack, recv_slots]
  unfold waitLeft
  rw [bigSep_sep']
  iintro ⟨⟨Hs, Hv⟩, Hz⟩
  isplitl [Hs Hz]
  · isplitl [Hz]; · iexact Hz
    iexact Hs
  iexact Hv

/-- After the departures: the accumulator whole, its semaphores at zero. -/
theorem leave_departures (c : Dev nD) :
    iprop(each (waitLeft m Sum.inl c) stepsBack ∗ accPts c c (accAt m c))
      ⊢ iprop((((c : Thread nD τ).loc cc0_scratch0) ↦{fullShare} accAt m c) ∗ bigSep Finset.univ fun k => semVal (sendCell c k) 0) := by
  rw [each_stepsBack, acc_slots]
  unfold waitLeft
  rw [bigSep_sep']
  iintro ⟨⟨Hs, Hv⟩, Hz⟩
  isplitl [Hs Hz]
  · isplitl [Hz]; · iexact Hz
    iexact Hs
  iexact Hv

/-- The end of the body. -/
theorem leave_body (c : Dev nD) : iprop(records m K ∗ waitSt m Sum.inl c stepsBack [] ∗ aside₄ m c) ⊢ bodyPost m c := by
  unfold waitSt aside₄ bodyPost Φ₁ scratch
  iintro ⟨-, ⟨HO, -, Hleft⟩, HvR, Hb, Ha, Hr, Hins, Hout⟩
  ihave H := (leave_departures m c) $$ [Hleft Ha]
  · isplitl [Hleft] <;> iassumption
  icases H with ⟨Ha, HvS⟩
  isplitl [HvR HvS Hb Ha Hr]
  · isplitl [Hb]; · iexact Hb
    isplitl [HvS HvR]
    · isplitl [HvS] <;> iassumption
    isplitl [Ha]
    · iexists (accAt m c); iexact Ha
    · iexists (landAt m c); iexact Hr
  isplitl [HO]; · iexact HO
  isplitl [Hins] <;> iassumption

end Cert.KernelIdeal.Exchange

end
-- ==== Proof.Run.lean ====
/- The run of the kernel's body on a device `c`, one rule per effect, each loop by its step lemma. -/
module

public import proofs.«01_k».proof.Proof.Body

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Kc → ℕ)

set_option maxHeartbeats 4000000 in
/-- From what the launch gives to what is left: the signals, the partial result, the wait for the others' signals, the
    transfers, the waits for arrivals, the sum, the waits for departures. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _)
            (Memref.whole cc0_scratch0) (Memref.isWhole_whole _) (Memref.whole cc0_scratch1) (Memref.isWhole_whole _)
            cc0_scratch2 cc0_scratch3) Kt := by
  simp only [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel
  simp only [semSignalWord, semWaitWord, Prog.lift, Prog.bind_op, Prog.bind_ret, Prog.pure_eq_ret, wp_deviceId]
  iintro ⟨Hpre, Hk⟩
  ihave H := (enter_signals m K c) $$ Hpre
  icases H with ⟨%f₀, %f₁, %fo, #Hrec, Hsig, Haside⟩
  -- the signals
  iapply (enter (P := iprop(records m K ∗ sigSt c steps ∗ aside₁ m c f₀ f₁ fo ∗ (bodyPost m c -∗ Kt ⟨⟩))) ?_)
  rotate_left
  · isplitr; · iexact Hrec
    isplitl [Hsig]; · iexact Hsig
    isplitl [Haside] <;> iassumption
  iterate 15 refine step_signal m K c _ _ _ _ (Fin.ext (by simp only [k0_dev1_eq, k0_dev2_eq, k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq]; rfl)) ?_
  -- the loads, and the partial result into the accumulator
  unfold sigSt aside₁ credits ins
  iintro ⟨#Hrec, ⟨⟨%W, HO⟩, -⟩, ⟨⟨HaB, HaS, HaR⟩, ⟨HtS, HtR⟩, ⟨HcB, HcR, #Hlev⟩, Hacc, Hz, ⟨Hx, Hrw, Hidx, Hew⟩, Hout⟩, Hk⟩
  iapply (wp_load 𝒱₀ (c : Thread nD τ) none Set.univ (m := Memref.whole cc0_stg0_0) (Finset.subset_univ _)) $$ Hx; iintro Hx
  rw [read_x]
  iapply (wp_load 𝒱₀ (c : Thread nD τ) none Set.univ (m := Memref.whole cc0_stg1_0) (Finset.subset_univ _)) $$ Hrw; iintro Hrw
  rw [read_rw]
  iapply (wp_load 𝒱₀ (c : Thread nD τ) none Set.univ (m := Memref.whole cc0_stg2_0) (Finset.subset_univ _)) $$ Hidx; iintro Hidx
  rw [read_col m c 0 ![0, 0] rfl]
  iapply (wp_load 𝒱₀ (c : Thread nD τ) none Set.univ (m := Memref.whole cc0_stg2_0) (Finset.subset_univ _)) $$ Hidx; iintro Hidx
  rw [read_col m c 1 ![0, 1] rfl]
  iapply (wp_load 𝒱₀ (c : Thread nD τ) none Set.univ (m := Memref.whole cc0_stg3_0) (Finset.subset_univ _)) $$ Hew; iintro Hew
  rw [read_exp m c 0 ![0, 0, 0] rfl]
  iapply (wp_load 𝒱₀ (c : Thread nD τ) none Set.univ (m := Memref.whole cc0_stg3_0) (Finset.subset_univ _)) $$ Hew; iintro Hew
  rw [read_exp m c 1 ![1, 0, 0] rfl]
  iapply (wp_load 𝒱₀ (c : Thread nD τ) none Set.univ (m := accM) (Finset.subset_univ _)) $$ Hacc; iintro Hacc
  iapply (wp_store 𝒱₀ (c : Thread nD τ) none Set.univ (m := accM)
    (r := Rect.unit (s := S16x16x256) ![0, 0, 0] S16x16x256.size inb_S16x16x256_S16x16x256_0_0_0) (Mk := Finset.univ) (Finset.subset_univ _)) $$ Hacc; iintro Hacc
  rw [write_acc]
  rw [show k0_pay2 (xAt m c) (rwAt m c) = probAt m c from rfl, show k0_pay12 (k0_pay1 (xAt m c)) _ _ _ _ _ _ _ _ = accAt m c from rfl]
  -- zeros into the slot no block lands in
  unfold recvPts
  iapply (wp_load 𝒱₀ (c : Thread nD τ) none Set.univ (m := recvM)
    ((View.set_slice recvM.view _).symm.trans (recvSlot_set 0 ![0, 0, 0] rfl inb_S16x16x256_S1x16x256_0_0_0)).subset) $$ Hz; iintro Hz
  iapply (wp_store 𝒱₀ (c : Thread nD τ) none Set.univ (m := recvM)
    (r := Rect.unit (s := S16x16x256) ![0, 0, 0] S1x16x256.size inb_S16x16x256_S1x16x256_0_0_0) (Mk := Finset.univ)
     (recvSlot_set 0 ![0, 0, 0] rfl _).subset) $$ Hz; iintro Hz
  -- the wait for the fifteen signals
  rw [show owedRecv c steps + owedBar c [] = owedRecv c steps from add_zero _]
  iapply (Rounds.wp_wait_rest_token 𝒱₀ EX (rd m) (c : Thread nD τ) none (κ := K (c, .inl ()))
      (wpE_semWait_eq 𝒱₀ (c : Thread nD τ) none Set.univ) (Set.mem_univ _) () (O := owedRecv c steps) (W := W) (R := 0) (m := 0) (T := ∅)
      (by rw [expect_bar]; decide)) $$ [HcB HO HaB]
  · isplitr; · iapply (inv_at m K (c, .inl ())); iexact Hrec
    isplitl [HcB]; · iexact HcB
    isplitl [HO]; · iexact HO
    isplitr; · iapply (mayWait_bar c); iexact Hlev
    iexact HaB
  iintro ⟨HO, HaB, -, Hpay⟩
  ihave Hp := (Entails.of_eq (rest_bar m c)) $$ Hpay
  imod (Rounds.cell_close EX (rd m) (Set.mem_univ (K (c, .inl ()))) (fun h => h) (R := 0 + 1) (duties_later m (barCell c))) $$ [HaB] with HzB
  · isplitr; · iapply (inv_at m K (c, .inl ())); iexact Hrec
    iexact HaB
  -- the transfers
  iapply (enter (P := iprop(records m K ∗ sendSt m c [] steps ∗ aside₂ m c fo ∗ (bodyPost m c -∗ Kt ⟨⟩))) ?_)
  rotate_left
  · ihave Hacc := (Entails.of_eq (acc_slots c (accAt m c))) $$ Hacc
    icases Hacc with ⟨Hown, Hacc⟩
    isplitr; · iexact Hrec
    isplitl [HO Hacc Hp HtS HtR]
    · unfold sendSt
      isplitl [HO]; · iexists _; iexact HO
      isplitl [Hacc Hp HtS HtR]
      · iapply (enter_sends m c)
        isplitl [Hacc]; · iexact Hacc
        isplitl [Hp]; · iexact Hp
        isplitl [HtS] <;> iassumption
      unfold each; iempintro
    isplitr [Hk]
    · unfold aside₂ ins
      isplitl [HaS HaR]
      · isplitl [HaS] <;> iassumption
      isplitl [HcR]; · iexact HcR
      isplitl [HzB]; · iexact HzB
      isplitl [Hown]; · iexact Hown
      isplitl [Hz]
      · iapply (Entails.of_eq (recv_zeroed m c inb_S16x16x256_S1x16x256_0_0_0 f₁)); iexact Hz
      isplitr [Hout]
      · isplitl [Hx]; · iexact Hx
        isplitl [Hrw]; · iexact Hrw
        isplitl [Hidx] <;> iassumption
      iexact Hout
    iexact Hk
  iterate 15
    refine step_send m K c _ _ _ _ _ (Fin.ext (by simp only [k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq]; rfl)) _ _ _ _ (k0_off1_eq c _) rfl _ _ rfl rfl ?_
  -- the waits for arrivals
  iintro ⟨#Hrec, Hst, Haside, Hk⟩
  iapply (enter (P := iprop(records m K ∗ waitSt m Sum.inr c [] steps ∗ aside₃ m c fo ∗ (bodyPost m c -∗ Kt ⟨⟩))) ?_)
  rotate_left
  · ihave H := (enter_arrivals m K c fo) $$ [Hst Haside]
    · isplitr; · iexact Hrec
      isplitl [Hst] <;> iassumption
    icases H with ⟨-, Hst, Haside⟩
    isplitr; · iexact Hrec
    isplitl [Hst]; · iexact Hst
    isplitl [Haside] <;> iassumption
  iterate 15 refine step_wait m K Sum.inr c _ _ _ _ _ rfl rfl ?_
  -- the sum of the blocks, into the result
  unfold waitSt aside₃ ins
  iintro ⟨#Hrec, ⟨HO, -, Hleft⟩, ⟨Hneed, HzB, Hown, Hz, ⟨Hx, Hrw, Hidx, Hew⟩, Hout⟩, Hk⟩
  ihave H := (leave_arrivals m c) $$ [Hleft Hz]
  · isplitl [Hleft] <;> iassumption
  icases H with ⟨Hland, HzR⟩
  unfold accPts out
  iapply (wp_load 𝒱₀ (c : Thread nD τ) none Set.univ (m := accM)
    ((View.set_slice accM.view _).symm.trans (accSlot_set c (k0_off2 c) (k0_off2_eq c) (k0_off2_inb c))).subset) $$ Hown; iintro Hown
  rw [read_own m c (k0_off2 c) (k0_off2_eq c)]
  iapply (wp_load 𝒱₀ (c : Thread nD τ) none Set.univ (m := recvM) (Finset.subset_univ _)) $$ Hland; iintro Hland
  rw [read_land]
  iapply (wp_load 𝒱₀ (c : Thread nD τ) none Set.univ (m := Memref.whole cc0_stg4_0) (Finset.subset_univ _)) $$ Hout; iintro Hout
  iapply (wp_store 𝒱₀ (c : Thread nD τ) none Set.univ (m := Memref.whole cc0_stg4_0)
    (r := Rect.unit (s := S16x256) ![0, 0] S16x256.size inb_S16x256_S16x256_0_0) (Mk := Finset.univ) (Finset.subset_univ _)) $$ Hout; iintro Hout
  rw [write_out]
  -- the waits for departures
  iapply (enter (P := iprop(records m K ∗ waitSt m Sum.inl c [] steps ∗ aside₄ m c ∗ (bodyPost m c -∗ Kt ⟨⟩))) ?_)
  rotate_left
  · isplitr; · iexact Hrec
    isplitl [HO Hneed]
    · unfold waitSt
      isplitl [HO]; · iexact HO
      isplitl [Hneed]
      · iapply (Entails.of_eq (each_steps (waitNeed (F := F) Sum.inl c)).symm); iexact Hneed
      unfold each; iempintro
    isplitr [Hk]
    · unfold aside₄ ins out accPts
      isplitl [HzR]; · iexact HzR
      isplitl [HzB]; · iexact HzB
      isplitl [Hown]; · iexact Hown
      isplitl [Hland]; · iexact Hland
      isplitr [Hout]
      · isplitl [Hx]; · iexact Hx
        isplitl [Hrw]; · iexact Hrw
        isplitl [Hidx] <;> iassumption
      iexact Hout
    iexact Hk
  iterate 15 refine step_wait m K Sum.inl c _ _ _ _ _ rfl rfl ?_
  rw [wp_ret]
  iintro ⟨#Hrec, Hst, Haside, Hk⟩
  imodintro
  iapply Hk
  iapply (leave_body m K c)
  isplitr; · iexact Hrec
  isplitl [Hst] <;> iassumption

end Cert.KernelIdeal.Exchange

end
-- ==== Proof.Launch.lean ====
/- The launch: the body obligation on each device, the ghost state dealt to the sixteen of them, and the run of @main. -/
module

public import proofs.«01_k».proof.Proof.Run
public import Idealize.ShloMosaic.Lib.Pipeline.CollectiveSegs

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

/-- The only grid point. -/
def t₀ : Fin cfg0.N := t0_0

omit [FloatOps F] in
theorem bigSep_windows (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

theorem before_x (c : Dev nD) (d) : (dats m ρ 0 c).before (0 : Fin 5) t₀ d = xAt m c := by
  unfold Dat.before; rw [if_pos (fetch0_0 t₀)]; rfl
theorem before_rw (c : Dev nD) (d) : (dats m ρ 0 c).before (1 : Fin 5) t₀ d = rwAt m c := by
  unfold Dat.before; rw [if_pos (fetch0_1 t₀)]; rfl
theorem before_idx (c : Dev nD) (d) : (dats m ρ 0 c).before (2 : Fin 5) t₀ d = idxAt m c := by
  unfold Dat.before; rw [if_pos (fetch0_2 t₀)]; rfl
theorem before_ew (c : Dev nD) (d) : (dats m ρ 0 c).before (3 : Fin 5) t₀ d = ewAt m c := by
  unfold Dat.before; rw [if_pos (fetch0_3 t₀)]; rfl

/-- What the pipeline hands the body on device `c`: -/
def obliged (c : Dev nD) : sProp 𝕄 :=
  iprop(Φ₀ m c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))
/-- and what it wants back. -/
def returned (c : Dev nD) : sProp 𝕄 :=
  iprop(Φ₁ c ∗ (dats m ρ 0 c).owesAt () t₀.succ
    ∗ stg c cc0_stg0_0 (xAt m c) ∗ stg c cc0_stg1_0 (rwAt m c) ∗ stg c cc0_stg2_0 (idxAt m c) ∗ stg c cc0_stg3_0 (ewAt m c)
    ∗ stg c cc0_stg4_0 (outAt m c))

theorem handed (c : Dev nD) : obliged m ρ c ⊢ iprop(∃ K, bodyPre m K c) := by
  unfold obliged Φ₀ start
  simp only [before_x, before_rw, before_idx, before_ew]
  iintro ⟨⟨⟨⟨%K, Hg⟩, Hc⟩, Hs⟩, Ho, ⟨%d0, %f0, %h0, H0⟩, ⟨%d1, %f1, %h1, H1⟩, ⟨%d2, %f2, %h2, H2⟩, ⟨%d3, %f3, %h3, H3⟩, ⟨%d4, %f4, %h4, H4⟩⟩
  subst h0 h1 h2 h3
  unfold Dat.owesAt Pipeline.owesWithin
  icases Ho with ⟨%W, %hW, HO⟩
  rw [show (dats m ρ 0 c).owed t₀.castSucc = O₀ c from rfl]
  iexists K
  unfold bodyPre ins out
  isplitl [Hg]; · iexact Hg
  isplitl [Hc]; · iexact Hc
  isplitl [Hs]; · iexact Hs
  isplitl [HO]; · iexists W; iexact HO
  isplitr [H4]
  · isplitl [H0]; · iexact H0
    isplitl [H1]; · iexact H1
    isplitl [H2]; · iexact H2
    iexact H3
  iexists f4; iexact H4

theorem handed_back (c : Dev nD) : bodyPost m c ⊢ returned m ρ c := by
  unfold bodyPost returned ins out
  iintro ⟨HΦ, ⟨%W, HO⟩, ⟨H0, H1, H2, H3⟩, H4⟩
  isplitl [HΦ]; · iexact HΦ
  isplitl [HO]
  · unfold Dat.owesAt Pipeline.owesWithin
    rw [show (dats m ρ 0 c).owed t₀.succ = 0 from rfl]
    iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact H4

/-- The body obligation on device `c`. -/
theorem body_obligation (c : Dev nD) : BodyObligation (dats m ρ 0 c) (defs₀ (F := F)) 𝒱₀ () Set.univ := fun t => by
  rw [show t = t₀ from fin_N0 t, bigSep_windows, bigSep_windows]
  simp only [owns_whole_eq]
  show obliged m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_scratch0) (Memref.isWhole_whole _)
      (Memref.whole cc0_scratch1) (Memref.isWhole_whole _) cc0_scratch2 cc0_scratch3) (fun _ => returned m ρ c)
  refine (handed m ρ c).trans ?_
  iintro ⟨%K, H⟩
  iapply (sound_body m K c fun _ => returned m ρ c)
  isplitl [H]; · iexact H
  iintro H
  iapply (handed_back m ρ c); iexact H

/-! ## The ghost state minted -/

theorem ownSemFacts : Pipeline.OwnSemFacts cfg0.spec osem := by decide

theorem share_eq (c : Dev nD) (w : Fin cfg0.W) : (dats m ρ 0 c).share w = fullShare := by unfold Dat.share; split <;> rfl

/-- The protocol's cells on all devices. -/
def cells : Finset (GSem nD τ sig) := Finset.univ.map ⟨kcell, kcell_injective⟩

/-- The duties of a device's own cells: fifteen on the barrier's, one on each transfer's. -/
abbrev tokOf (cx : Dev nD × (Fin 15 ⊕ (Fin 15 ⊕ Fin 15))) : GSem nD τ sig × ℕ × Fin 15 := match cx.2 with
  | .inl d => (barCell cx.1, 0, d)
  | .inr y => (kcell (cx.1, .inr y), 0, 0)
theorem tokOf_injective : Function.Injective tokOf := by
  rintro ⟨c, x⟩ ⟨c', x'⟩ h
  rcases x with d | y <;> rcases x' with d' | y'
  · have h1 := kcell_injective (congrArg Prod.fst h)
    have h2 : d = d' := congrArg (fun x : GSem nD τ sig × ℕ × Fin 15 => x.2.2) h
    exact Prod.ext (congrArg (fun x : Dev nD × Kc => x.1) h1) (congrArg Sum.inl h2)
  · exact absurd (congrArg Prod.snd (kcell_injective (congrArg Prod.fst h))) Sum.inl_ne_inr
  · exact absurd (congrArg Prod.snd (kcell_injective (congrArg Prod.fst h))) Sum.inr_ne_inl
  · have h1 := kcell_injective (congrArg Prod.fst h)
    exact Prod.ext (congrArg (fun x : Dev nD × Kc => x.1) h1) (congrArg Sum.inr (Sum.inr.inj (congrArg (fun x : Dev nD × Kc => x.2) h1)))
def tokens : Finset (GSem nD τ sig × ℕ × Fin 15) := Finset.univ.map ⟨tokOf, tokOf_injective⟩

def u₀ : UU :=
  (initOf (Pipeline.cells cfgs cellOf_inj) (Pipeline.launchToks cfgs cellOf_inj), initOf cells tokens)

/-- The duty tokens of device `c`'s own cells. -/
def toks (c : Dev nD) : sProp 𝕄 :=
  iprop((bigSep Finset.univ fun d => dutyTok EX (barCell c) 0 d)
    ∗ (bigSep Finset.univ fun k => dutyTok EX (sendCell c k) 0 0) ∗ bigSep Finset.univ fun k => dutyTok EX (recvCell c k) 0 0)

/-- What the launch deals device `c`. -/
def G (c : Dev nD) : sProp 𝕄 :=
  iprop((bigSep Finset.univ fun x => roundState EX (rd m) (kcell (c, x)) 0)
    ∗ (bigSep Finset.univ fun x => atPos EX (kcell (c, x)) 0 ∅ 0) ∗ (bigSep Finset.univ fun x => reached EX (kcell (c, x)) 0) ∗ toks c)

/-- What the setting up of the invariants makes of it. -/
def G' (c : Dev nD) : sProp 𝕄 := iprop(∃ K, ghost m K c)

omit [FloatOps F] in
/-- A resource for each cell of a device: the barrier's, the send cells', the receive cells'. -/
theorem bigSep_cells (Φ : Kc → sProp 𝕄) : bigSep Finset.univ Φ
    = iprop(Φ (.inl ()) ∗ (bigSep Finset.univ fun k => Φ (.inr (.inl k))) ∗ bigSep Finset.univ fun k => Φ (.inr (.inr k))) := by
  rw [bigSep_univ_sum, bigSep_univ_sum, bigSep_univ_of_subsingleton ()]; rfl

theorem fund : BI.own (EX (initOf cells tokens)) ⊢ (|==> bigSep Finset.univ (G m) : sProp 𝕄) := by
  have hX (Φ : GSem nD τ sig → sProp 𝕄) : bigSep cells Φ = bigSep Finset.univ fun c : Dev nD => bigSep Finset.univ fun x : Kc => Φ (kcell (c, x)) := by
    unfold cells; rw [bigSep_map, bigSep_univ_prod]; rfl
  have hT : bigSep tokens (fun x => (dutyTok EX x.1 x.2.1 x.2.2 : sProp 𝕄)) = bigSep Finset.univ fun c : Dev nD => toks c := by
    unfold tokens; rw [bigSep_map, bigSep_univ_prod]
    exact bigSep_congr fun c _ => by unfold toks; rw [bigSep_univ_sum, bigSep_univ_sum]; rfl
  iintro HX
  imod (Rounds.fund EX (rd m) cells tokens) $$ HX with ⟨Hst, Hr, Hat, Htok⟩
  imodintro
  ihave Hst' := (Entails.of_eq (hX fun g => roundState EX (rd m) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

omit [FloatOps F] in
/-- The transfers' semaphores are the kernel's own; -/
theorem ownSems0_eq (c : Dev nD) : (Pipeline.ownSems0 (Ix := Unit) (Name := ℕ) (U := UU) (Lvl := ℕ) (Val := Elt F) (τ := τ) osem c : sProp 𝕄)
    = iprop((bigSep Finset.univ fun k => semVal (sendCell c k) 0) ∗ bigSep Finset.univ fun k => semVal (recvCell c k) 0) := by
  unfold Pipeline.ownSems0; rw [bigSep_univ_sum]; rfl
omit [FloatOps F] in
/-- the barrier's is the one that outlives it. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : Kc => semVal (kcell (c, x)) 0 : sProp 𝕄) := by
  rw [ownSems0_eq, unscopedSems0_eq, bigSep_cells]
  iintro ⟨⟨HS, HV⟩, HB⟩
  isplitl [HB]; · iexact HB
  isplitl [HS] <;> iassumption

/-- What a device holds once its cells' invariants are set up. -/
def held (c : Dev nD) : sProp 𝕄 :=
  iprop((bigSep Finset.univ fun x => iprop(∃ κ : ℕ, cellInv EX (rd m) κ (kcell (c, x))))
    ∗ (bigSep Finset.univ fun x => atPos EX (kcell (c, x)) 0 ∅ 0) ∗ (bigSep Finset.univ fun x => reached EX (kcell (c, x)) 0) ∗ toks c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> held m c := by
  unfold G held
  iintro ⟨Hos, Hus, Hst, Hat, Hr, Htok⟩
  ihave Hv := (sems0_eq (F := F) c) $$ [Hos Hus]
  · isplitl [Hos] <;> iassumption
  imod (show iprop((bigSep Finset.univ fun x : Kc => semVal (kcell (c, x)) 0) ∗ bigSep Finset.univ fun x : Kc => roundState EX (rd m) (kcell (c, x)) 0)
      ⊢ (|={Set.univ}=> bigSep Finset.univ fun x => iprop(∃ κ : ℕ, cellInv EX (rd m) κ (kcell (c, x))) : sProp 𝕄) from by
        rw [← bigSep_sep']
        exact (bigSep_mono fun x _ => (Rounds.body_intro EX (rd m) (kcell (c, x))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-! ## The tokens dealt to those who pay -/

/-- Device `c` at step `k` against the device it leads to at the step back. -/
def there : Dev nD × Fin 15 ≃ Dev nD × Fin 15 :=
  have h (x : Dev nD × Fin 15) : (fwd (fwd x.1 x.2) x.2.rev, x.2.rev.rev) = x := by rw [fwd_fwd_rev, Fin.rev_rev]
  ⟨fun x => (fwd x.1 x.2, x.2.rev), fun x => (fwd x.1 x.2, x.2.rev), h, h⟩
/-- Device `c` at step `k` against the device it leads to at the same step. -/
def along : Dev nD × Fin 15 ≃ Dev nD × Fin 15 :=
  ⟨fun x => (fwd x.1 x.2, x.2), fun x => (fwd x.1 x.2.rev, x.2),
    fun x => by dsimp only; rw [fwd_fwd_rev], fun x => by dsimp only; rw [fwd_rev_fwd]⟩

omit [FloatOps F] in
/-- A resource for each device and step, dealt out afresh along a permutation of these. -/
theorem bigSep_deal (e : Dev nD × Fin 15 ≃ Dev nD × Fin 15) (Φ : Dev nD → Fin 15 → sProp 𝕄) :
    (bigSep Finset.univ fun c => bigSep Finset.univ fun k => Φ c k)
      = bigSep Finset.univ fun c => bigSep Finset.univ fun k => Φ (e (c, k)).1 (e (c, k)).2 := by
  rw [← bigSep_univ_prod (fun x : Dev nD × Fin 15 => Φ x.1 x.2), bigSep_univ_equiv e, bigSep_univ_prod]

/-- The tokens of the duties a device pays. -/
def payToks (c : Dev nD) : sProp 𝕄 :=
  iprop((bigSep Finset.univ fun k => dutyTok EX (barCell (fwd c k)) 0 k.rev) ∗ (bigSep Finset.univ fun k => dutyTok EX (sendCell c k) 0 0)
    ∗ bigSep Finset.univ fun k => dutyTok EX (recvCell (fwd c k) k) 0 0)

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_deal there fun c d => (dutyTok EX (barCell c) 0 d : sProp 𝕄),
    bigSep_deal along fun c k => (dutyTok EX (recvCell c k) 0 0 : sProp 𝕄)]
  exact Entails.rfl

/-- What stays with device `c`: its positions, and the tokens of the duties it pays. -/
def linear (c : Dev nD) : sProp 𝕄 :=
  iprop((bigSep Finset.univ fun x => atPos EX (kcell (c, x)) 0 ∅ 0) ∗ payToks c)

theorem ghost_intro (K : Dev nD × Kc → ℕ) (c : Dev nD) : iprop(records m K ∗ linear c) ⊢ G' m c := by
  unfold linear payToks G' ghost
  rw [bigSep_cells]
  iintro ⟨HR, Hat, HtB, HtS, HtV⟩
  iexists K
  isplitl [HR]; · iexact HR
  isplitl [Hat]; · iexact Hat
  isplitl [HtB]; · iexact HtB
  isplitl [HtS]; · iexact HtS
  iexact HtV

theorem regroup : (bigSep Finset.univ (held m) : sProp 𝕄) ⊢ bigSep Finset.univ (G' m) := by
  unfold held
  rw [bigSep_sep', bigSep_sep', bigSep_sep', ← bigSep_univ_prod (fun cx : Dev nD × Kc => iprop(∃ κ : ℕ, cellInv EX (rd m) κ (kcell cx))),
    ← bigSep_univ_prod (fun cx : Dev nD × Kc => (reached EX (kcell cx) 0 : sProp 𝕄))]
  iintro ⟨HI, Hat, #HR, Htok⟩
  ihave HK := (BI.bigSep_exists_pi Finset.univ (fun (cx : Dev nD × Kc) (κ : ℕ) => (cellInv EX (rd m) κ (kcell cx) : sProp 𝕄))) $$ HI
  icases HK with ⟨%K, #HI⟩
  ihave Htk := (toks_around (F := F)) $$ Htok
  iapply (bigSep_with_persistent (R := records m K) fun c _ => ghost_intro m K c)
  isplitr
  · unfold records; rw [bigSep_sep']; isplitl; · iexact HI
    iexact HR
  · unfold linear; rw [bigSep_sep']
    isplitl [Hat]; · iexact Hat
    iexact Htk

/-- The invariants of all devices' cells set up at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What all devices together owe a cell: a unit of `n` for each device and step that name it. -/
theorem owed_total (cell : Dev nD → Fin 15 → GSem nD τ sig) (n : ℕ) (g : GSem nD τ sig) :
    ∑ d, owed (cell d) n steps g () = n * ∑ d, ∑ k, if g = cell d k then 1 else 0 := by
  rw [Finset.mul_sum]
  refine Finset.sum_congr rfl fun d _ => ?_
  rw [owed_steps, Finset.sum_apply, Finsupp.finset_sum_apply, Finset.mul_sum]
  refine Finset.sum_congr rfl fun k _ => ?_
  rw [tallyAt_apply]
  by_cases h : g = cell d k
  · rw [if_pos ⟨h, rfl⟩, if_pos h, mul_one]
  · rw [if_neg fun e => h e.1, if_neg h, mul_zero]

/-- Two of the protocol's cells are one when they have the same device and the same role. -/
theorem kcell_eq_iff (a b : Dev nD × Kc) : Iff (kcell a = kcell b) (a = b) := kcell_injective.eq_iff

theorem count_zero (x : Kc) (c : Dev nD) (y : Fin 15 → Kc) (h : ∀ k, x ≠ y k) :
    (∑ d : Dev nD, ∑ k, if kcell (c, x) = kcell (fwd d k, y k) then 1 else 0) = 0 :=
  Finset.sum_eq_zero fun d _ => Finset.sum_eq_zero fun k _ =>
    if_neg fun e => h k (congrArg Prod.snd (kcell_injective e))

/-- Fifteen devices, each at one step, lead to a device; -/
theorem count_bar (c : Dev nD) : (∑ d : Dev nD, ∑ k, if barCell c = barCell (fwd d k) then 1 else 0) = 15 := by
  simp only [kcell_eq_iff, Prod.mk.injEq, and_true]
  revert c; decide +kernel

/-- one of them at a given step. -/
theorem count_recv (c : Dev nD) (k : Fin 15) : (∑ d : Dev nD, ∑ k', if recvCell c k = recvCell (fwd d k') k' then 1 else 0) = 1 := by
  simp only [kcell_eq_iff, Prod.mk.injEq, Sum.inr.injEq]
  revert c k; decide +kernel

theorem launch_total (g : GSem nD τ sig) : launchCredit (Pipeline.owing O₀) 0 g ()
    = N * (∑ d : Dev nD, ∑ k, if g = recvCell (fwd d k) k then 1 else 0) + 1 * ∑ d : Dev nD, ∑ k, if g = barCell (fwd d k) then 1 else 0 := by
  rw [Pipeline.launchCredit_owing, ← owed_total, ← owed_total, ← Finset.sum_add_distrib]
  exact Finset.sum_congr rfl fun d _ => rfl

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Finsupp.single_eq_same, launch_total, count_bar, count_zero _ _ (fun k => .inr (.inr k)) fun _ => Sum.inl_ne_inr]; rfl

theorem launch_recv (c : Dev nD) (k : Fin 15) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Finsupp.single_eq_same, launch_total, count_recv, count_zero _ _ (fun _ => .inl ()) fun _ => Sum.inr_ne_inl, mul_zero, add_zero, mul_one]

omit [FloatOps F] in
theorem creds (c : Dev nD) : (Pipeline.launchCred O₀ c : sProp 𝕄)
    ⊢ iprop(cred (tallyAt (barCell c) () 15) ∗ bigSep Finset.univ fun k => cred (tallyAt (recvCell c k) () N)) := by
  unfold Pipeline.launchCred
  rw [bigSep_univ_at _ (SemLoc.reg barS), launch_bar]
  refine sep_mono_right ?_
  have inj : Function.Injective fun k : Fin 15 => osem (.inr k) := fun k k' h =>
    Sum.inr.inj (Sum.inr.inj (csem_injective (a₁ := .inr (.inr k)) (a₂ := .inr (.inr k')) h))
  have sub : Finset.univ.map ⟨_, inj⟩ ⊆ Finset.univ.erase (SemLoc.reg barS : SemLoc sig) := fun x hx => by
    obtain ⟨k, -, rfl⟩ := Finset.mem_map.mp hx
    exact Finset.mem_erase.mpr ⟨fun h => (nomatch h), Finset.mem_univ _⟩
  refine (bigSep_subset sub).trans ?_
  rw [bigSep_map]
  exact bigSep_mono fun k _ => Entails.of_eq (congrArg cred (launch_recv c k))

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G' credits
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  exact Entails.rfl

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- A window's array after the run. -/
def finalA (c : Dev nD) (w : Fin cfg0.W) : Buf (Elt F) ((cfg0.win w).arr.view.loc (c : Thread nD τ)) := (dats m ρ 0 c).arrAt w cfg0.N

/-- Every window's array on every device ends at `finalA`. -/
def QC : PUnit × MemSt nD τ sig (Elt F) → Prop := fun r =>
  ∀ c : Dev nD, ∀ w : Fin cfg0.W, r.2.mem ((cfg0.win w).arr.view.loc (c : Thread nD τ)) = finalA m ρ c w

/-- At the mesh of sixteen devices, for any float values, from any memory with zero counters: every weakly fair execution
    of @main terminates, and at its end each window's array holds its computed contents and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array ends as it began. -/
theorem finalA_in (c : Dev nD) (w : Fin 5) (h : w ≠ 4) : finalA m ρ c w = m ((cfg0.win w).arr.view.loc (c : Thread nD τ)) :=
  (dats m ρ 0 c).arrAt_in w (by revert w; decide) _

end Cert.KernelIdeal.Exchange

end
-- ==== Proof.Mix.lean ====
module
public import Idealize.ShloMosaic.PureOps.Ideal.Laws
public import Idealize.ShloMosaic.Lib.Pointwise.Sums
public import Mathlib.Data.EReal.Operations

/-!
Arithmetic of the mixture, over the extended reals and away from any program: a row's two chosen
experts, one weight each, and thirty-two expert outputs.
-/

@[expose] public section

noncomputable section

namespace Cert.Mix

open Idealize.ShloMosaic

/-- The negative of a number added to itself is the negative added to itself: no infinities of
    opposite sign meet. -/
theorem neg_double (c : EReal) : -(c + c) = -c + -c := by
  have h : c ≠ ⊥ ∨ c ≠ ⊤ := by
    by_cases hc : c = ⊥
    · exact Or.inr (by rw [hc]; exact bot_ne_top)
    · exact Or.inl hc
  rw [EReal.neg_add h h.symm, sub_eq_add_neg]

/-- Adding a number to itself and scaling is scaling twice and adding, at every extended real. -/
theorem double_mul (a y : EReal) : (a + a) * y = a * y + a * y := by
  rcases le_total 0 a with h | h
  · exact EReal.right_distrib_of_nonneg h h
  · obtain ⟨b, rfl⟩ : ∃ b, a = -b := ⟨-a, (neg_neg a).symm⟩
    have hb : 0 ≤ b := by simpa using h
    rw [← neg_double, EReal.neg_mul, EReal.right_distrib_of_nonneg hb hb, neg_double, EReal.neg_mul]

/-- A sum over positions of which at most the ones equal to one index count, scaled, is the sum of
    the scaled terms: there is at most one term. -/
theorem mul_pick {n : ℕ} (f : Fin n → BitVec 32) (hf : Function.Injective f) (b : BitVec 32) (u : EReal)
    (y : Fin n → EReal) :
    u * (∑ e, if b = f e then y e else 0) = ∑ e, if b = f e then u * y e else 0 := by
  by_cases h : ∃ e, b = f e
  · obtain ⟨e, he⟩ := h
    rw [Finset.sum_eq_single e, Finset.sum_eq_single e, if_pos he, if_pos he]
    · intro e' _ hne
      exact if_neg fun h' => hne (hf (h'.symm.trans he))
    · simp
    · intro e' _ hne
      exact if_neg fun h' => hne (hf (h'.symm.trans he))
    · simp
  · have hn : ∀ e, ¬ b = f e := fun e he => h ⟨e, he⟩
    simp [hn]

/-- The weight a row gives one expert word: the first choice's weight if it is the first choice, plus
    the second choice's if it is the second. -/
def weight (a b : BitVec 32) (u v : EReal) (w : BitVec 32) : EReal :=
  (if a = w then u else 0) + (if b = w then v else 0)

/-- THE MIXTURE: every expert's output scaled by its weight, summed, is the first choice's output
    times its weight plus the second's times its own. Equal choices need equal weights. -/
theorem sum_weight {n : ℕ} (f : Fin n → BitVec 32) (hf : Function.Injective f) (a b : BitVec 32) (u v : EReal)
    (huv : a = b → u = v) (y : Fin n → EReal) :
    ∑ e, weight a b u v (f e) * y e
      = u * (∑ e, if a = f e then y e else 0) + v * (∑ e, if b = f e then y e else 0) := by
  rw [mul_pick f hf, mul_pick f hf, ← Finset.sum_add_distrib]
  refine Finset.sum_congr rfl fun e _ => ?_
  unfold weight
  by_cases ha : a = f e <;> by_cases hb : b = f e
  · rw [if_pos ha, if_pos hb, if_pos ha, if_pos hb, huv (ha.trans hb.symm)]
    exact double_mul v (y e)
  all_goals simp [ha, hb]

/-- A sum over thirty-two is a sum over sixteen pairs of neighbours. -/
theorem sum_pairs (g : Fin 32 → EReal) :
    ∑ e, g e = ∑ d : Fin 16, (g ⟨d.val * 2, by omega⟩ + g ⟨d.val * 2 + 1, by omega⟩) := by
  rw [Fin.sum_univ_tiles 16 2 rfl g]
  refine Finset.sum_congr rfl fun d _ => ?_
  rw [Fin.sum_univ_two]
  rfl

/-- Distinct experts have distinct words. -/
theorem word_inj {e e' : Fin 32} (h : BitVec.ofNat 32 e.val = BitVec.ofNat 32 e'.val) : e = e' := by
  revert e e'; decide +kernel

/-- The bit of a word being at least zero and at most thirty-one, read signed. -/
def inRange (a : BitVec 32) : BitVec 1 := IntOp.andi (IntOp.cmpi .sge a 0#32) (IntOp.cmpi .sle a 31#32)

/-- The words in that range are the experts' words. -/
theorem inRange_iff (a : BitVec 32) : inRange a = 1#1 ↔ ∃ e : Fin 32, a = BitVec.ofNat 32 e.val := by
  constructor
  · intro h
    have hb : (0#32).sle a = true ∧ a.sle 31#32 = true := by
      revert h
      unfold inRange
      show IntOp.andi (BitVec.ofBool ((0#32).sle a)) (BitVec.ofBool (a.sle 31#32)) = 1#1 → _
      cases (0#32).sle a <;> cases a.sle 31#32 <;> decide
    rw [BitVec.sle_iff_toInt_le, BitVec.sle_iff_toInt_le] at hb
    have h0 : (0 : ℤ) ≤ a.toInt := hb.1
    have h1 : a.toInt ≤ 31 := hb.2
    have hlt := a.isLt
    rw [BitVec.toInt_eq_toNat_cond] at h0 h1
    have hn : a.toNat < 32 := by split at h0 <;> split at h1 <;> omega
    exact ⟨⟨a.toNat, hn⟩, by simp⟩
  · rintro ⟨e, rfl⟩
    revert e; decide +kernel

/-- The probability a row gives the expert a word names: the one at that place, and zero when the word names none
    of the thirty-two. -/
def gate (P : Fin 32 → EReal) (a : BitVec 32) : EReal := ∑ e : Fin 32, if a = BitVec.ofNat 32 e.val then P e else 0

/-- A word naming an expert picks that expert's entry. -/
theorem gate_some (P : Fin 32 → EReal) {a : BitVec 32} {e : Fin 32} (h : a = BitVec.ofNat 32 e.val) : gate P a = P e := by
  unfold gate
  rw [Finset.sum_eq_single e, if_pos h]
  · intro e' _ hne
    exact if_neg fun h' => hne (word_inj (h'.symm.trans h))
  · simp

/-- A word naming none picks zero. -/
theorem gate_none (P : Fin 32 → EReal) {a : BitVec 32} (h : ¬ ∃ e : Fin 32, a = BitVec.ofNat 32 e.val) : gate P a = 0 := by
  unfold gate
  exact Finset.sum_eq_zero fun e _ => if_neg fun he => h ⟨e, he⟩

/-- Picking an expert and then taking a weighted sum of its entries is taking the weighted sums and then picking. -/
theorem sum_gate {n : ℕ} (x : Fin n → EReal) (W : Fin 32 → Fin n → EReal) (a : BitVec 32) :
    ∑ k, x k * gate (fun e => W e k) a = gate (fun e => ∑ k, x k * W e k) a := by
  by_cases h : ∃ e : Fin 32, a = BitVec.ofNat 32 e.val
  · obtain ⟨e, he⟩ := h
    rw [gate_some _ he]
    exact Finset.sum_congr rfl fun k _ => by rw [gate_some _ he]
  · rw [gate_none _ h]
    exact Finset.sum_eq_zero fun k _ => by rw [gate_none _ h, mul_zero]

/-- The first choice's probability as a part of the two choices' sum. -/
def share (P : Fin 32 → EReal) (a b : BitVec 32) : EReal := Ideal.div (gate P a) (gate P a + gate P b)

/-- The second choice's part of the same sum. -/
def share' (P : Fin 32 → EReal) (a b : BitVec 32) : EReal := Ideal.div (gate P b) (gate P a + gate P b)

/-- Equal choices have equal parts. -/
theorem share_eq (P : Fin 32 → EReal) {a b : BitVec 32} (h : a = b) : share P a b = share' P a b := by
  subst h; rfl

end Cert.Mix
end
end
-- ==== Proof.KernelValue.lean ====
/- What one device's kernel computes at an index, over the extended reals. -/
module

public import proofs.«01_k».proof.Proof.Gen.KernelIdeal
public import proofs.«01_k».proof.Proof.Gen.KernelIdeal.Skeleton
public import proofs.«01_k».proof.Proof.Mix
public import Idealize.ShloMosaic.Lib.Pointwise

@[expose] public section

set_option maxRecDepth 16384

noncomputable section

namespace Cert.KernelIdeal.Value

open Cert.KernelIdeal Cert.KernelIdeal.Gen Cert.Mix
open Idealize.ShloMosaic

/-- The flat row of entry `a` of row block `n`. -/
def row (n a : Fin 16) : Fin 256 := ⟨n.val * 16 + a.val, by omega⟩

/-- A choice on the equality of two words is the choice on the words being equal. -/
theorem select_eq {w : Nat} (a b : BitVec w) (u v : EReal) :
    Scalar.select (IntOp.cmpi .eq a b) u v = if a = b then u else v := by
  by_cases h : a = b
  · subst h
    simp [IntOp.cmpi, Scalar.select]
  · have hb : IntOp.cmpi .eq a b = 0#1 := by
      show BitVec.ofBool (a == b) = 0#1
      rw [beq_false_of_ne h]
      rfl
    rw [hb, if_neg h]
    rfl

/-- The first choice's probability, as the kernel gathers it row by row. -/
theorem pay5_at (P : FVec Ideal S256x32 .f32) (i0 : IVec S256x1 32) (r : Fin 256) :
    k0_pay5 (F := Ideal) P i0 (ix2 r 0) = gate (fun e => P (ix2 r e)) (i0 (ix2 r 0)) := by
  pointwise [k0_pay5, k0_pay3, gate]
  exact Finset.sum_congr rfl fun e _ => select_eq _ _ _ _

/-- The second choice's probability. -/
theorem pay6_at (P : FVec Ideal S256x32 .f32) (i1 : IVec S256x1 32) (r : Fin 256) :
    k0_pay6 (F := Ideal) P i1 (ix2 r 0) = gate (fun e => P (ix2 r e)) (i1 (ix2 r 0)) := by
  pointwise [k0_pay6, k0_pay4, gate]
  exact Finset.sum_congr rfl fun e _ => select_eq _ _ _ _

/-- One device's partial result at a row and a column: its two experts' outputs, each scaled by the weight the row
    gives the expert's word. -/
theorem part_at (dw : BitVec 32) (x : FVec Ideal S256x128 .f32) (P : FVec Ideal S256x32 .f32) (i0 i1 : IVec S256x1 32)
    (w0 w1 : FVec Ideal S1x128x256 .f32) (n a : Fin 16) (h : Fin 256) :
    k0_pay12 (F := Ideal) (k0_pay1 x) (k0_pay4 (F := Ideal) i1) (k0_pay8 P i0 i1) (k0_pay9 P i0 i1) (k0_pay10 dw (k0_pay1 x) P i0 i1 w0)
        (Scalar.addi (Scalar.muli dw 2#32) 1#32) (k0_pay11 (F := Ideal) dw i0) (Scalar.ofBits .f32 0x00000000#32) w1 (ix3 n a h)
      = weight (i0 (ix2 (row n a) 0)) (i1 (ix2 (row n a) 0))
            (share (fun e => P (ix2 (row n a) e)) (i0 (ix2 (row n a) 0)) (i1 (ix2 (row n a) 0)))
            (share' (fun e => P (ix2 (row n a) e)) (i0 (ix2 (row n a) 0)) (i1 (ix2 (row n a) 0)))
            (Scalar.addi (Scalar.muli dw 2#32) 0#32) * (∑ k : Fin 128, x (ix2 (row n a) k) * w0 (ix3 0 k h))
        + weight (i0 (ix2 (row n a) 0)) (i1 (ix2 (row n a) 0))
            (share (fun e => P (ix2 (row n a) e)) (i0 (ix2 (row n a) 0)) (i1 (ix2 (row n a) 0)))
            (share' (fun e => P (ix2 (row n a) e)) (i0 (ix2 (row n a) 0)) (i1 (ix2 (row n a) 0)))
            (Scalar.addi (Scalar.muli dw 2#32) 1#32) * (∑ k : Fin 128, x (ix2 (row n a) k) * w1 (ix3 0 k h)) := by
  unfold weight share share'
  rw [← pay5_at, ← pay6_at, ← select_eq, ← select_eq, ← select_eq, ← select_eq]
  pointwise [k0_pay12, k0_pay1, k0_pay4, k0_pay8, k0_pay9, k0_pay10, k0_pay11, k0_pay7, k0_pay3]
  rfl

/-- The result at a row and a column: the device's own block there plus the received slots' sum. -/
theorem pay14_at (o : FVec Ideal S1x16x256 .f32) (l : FVec Ideal S16x16x256 .f32) (a : Fin 16) (h : Fin 256) :
    k0_pay14 (F := Ideal) o l (ix2 a h) = o (ix3 0 a h) + ∑ n : Fin 16, l (ix3 n a h) := by
  pointwise [k0_pay14]

end Cert.KernelIdeal.Value
end
end
-- ==== Proof.DeviceValue.lean ====
/- What each device's array of results holds after the run, at a row and a column, over the extended reals. -/
module

public import proofs.«01_k».proof.Proof.Launch
public import proofs.«01_k».proof.Proof.KernelValue

@[expose] public section

set_option maxRecDepth 16384

noncomputable section

namespace Cert.KernelIdeal.Value

open Cert.KernelIdeal Cert.KernelIdeal.Gen Cert.KernelIdeal.Exchange Cert.Mix
open Idealize.ShloMosaic Idealize.ShloMosaic.TcCoe

section Arrays

variable {F : FTy → Type} [FloatOps F] (m : (ℓ : Loc nD τ sig) → Buf (Elt F) ℓ) (ρ : Dev nD → PrngReg)

/-- A device's block of tokens is its whole argument. -/
theorem xAt_eq (c : Dev nD) : xAt m c = m ((c : Thread nD τ).loc main_arg0) :=
  Memref.read_access_unit_zero (Elt F) main_arg0
    (show (fun a => (win0_0.index t0_0) a * main_arg0.ty.shape.size a) = fun _ => 0 from funext fun a => by revert a; decide)
    (fun a => by revert a; decide) _

/-- A device's block of router weights is its whole argument. -/
theorem rwAt_eq (c : Dev nD) : rwAt m c = m ((c : Thread nD τ).loc main_arg1) :=
  Memref.read_access_unit_zero (Elt F) main_arg1
    (show (fun a => (win0_1.index t0_0) a * main_arg1.ty.shape.size a) = fun _ => 0 from funext fun a => by revert a; decide)
    (fun a => by revert a; decide) _

/-- A device's block of choices is its whole argument. -/
theorem idxAt_eq (c : Dev nD) : idxAt m c = m ((c : Thread nD τ).loc main_arg2) :=
  Memref.read_access_unit_zero (Elt F) main_arg2
    (show (fun a => (win0_2.index t0_0) a * main_arg2.ty.shape.size a) = fun _ => 0 from funext fun a => by revert a; decide)
    (fun a => by revert a; decide) _

/-- A device's block of expert matrices is its whole argument. -/
theorem ewAt_eq (c : Dev nD) : ewAt m c = m ((c : Thread nD τ).loc main_arg3) :=
  Memref.read_access_unit_zero (Elt F) main_arg3
    (show (fun a => (win0_3.index t0_0) a * main_arg3.ty.shape.size a) = fun _ => 0 from funext fun a => by revert a; decide)
    (fun a => by revert a; decide) _

/-- After the run a device's array of results holds what its body left in the block that covers it. -/
theorem finalA_out (c : Dev nD) : finalA m ρ c (4 : Fin 5) = outAt m c := by
  have hw := (dats m ρ 0 c).arrAt_succ (4 : Fin 5) t₀
  rw [if_pos (by decide : (cfg0.win (4 : Fin 5)).flush t₀ = true)] at hw
  have hr : (win0_4.blk t₀).view.read (Elt F) (finalA m ρ c (4 : Fin 5)) = outAt m c :=
    (congrArg ((win0_4.blk t₀).view.read (Elt F)) hw).trans (View.read_write_univ _ _)
  exact (Memref.read_access_unit_zero (Elt F) main_v1
    (show (fun a => (win0_4.index t₀) a * main_v1.ty.shape.size a) = fun _ => 0 from funext fun a => by revert a; decide)
    (fun a => by revert a; decide) _).symm.trans hr

end Arrays

/-- The places of a buffer of sixteen blocks are named by block, row and column. -/
theorem elemAt_eq (n a : Fin 16) (b : Fin 256) : elemAt n a b = ix3 n a b := by
  funext i
  match i with
  | ⟨0, _⟩ => rfl
  | ⟨1, _⟩ => rfl
  | ⟨2, _⟩ => rfl

/-- A device's word for its first expert is that expert's word. -/
theorem expert_word0 (d : Fin 16) :
    Scalar.addi (Scalar.muli (devWord d) 2#32) 0#32 = BitVec.ofNat 32 (d.val * 2) := by
  revert d; decide +kernel

/-- And its second expert's. -/
theorem expert_word1 (d : Fin 16) :
    Scalar.addi (Scalar.muli (devWord d) 2#32) 1#32 = BitVec.ofNat 32 (d.val * 2 + 1) := by
  revert d; decide +kernel

/-- Going back by each number of steps reaches every device once. -/
theorem srcOf_bijective (c : Dev nD) : Function.Bijective (srcOf c) := by
  refine Finite.injective_iff_bijective.mp fun n n' h => ?_
  revert c n n'; decide +kernel

/-- A device's own term and the terms of the devices one to fifteen steps back are all the devices' terms. -/
theorem sum_back (c : Dev nD) (T : Dev nD → EReal) (f : Fin 16 → EReal) (h0 : f 0 = 0)
    (hs : ∀ k : Fin 15, f k.succ = T (srcOf c k.succ)) : T c + ∑ n, f n = ∑ d : Fin 16, T d := by
  rw [← (srcOf_bijective c).sum_comp T, Fin.sum_univ_succ, Fin.sum_univ_succ (fun n => T (srcOf c n)), h0, zero_add]
  refine congrArg₂ (· + ·) ?_ (Finset.sum_congr rfl fun k _ => hs k)
  exact congrArg T ((by decide +kernel : ∀ c : Dev nD, c = srcOf c 0) c)

section AtIdeal

variable (m : (ℓ : Loc nD τ sig) → Buf (Elt Ideal) ℓ) (ρ : Dev nD → PrngReg)
  (x : FVec Ideal S256x128 .f32) (rw : FVec Ideal S128x32 .f32) (idx : IVec S256x2 32)
  (W : (⟨3, ![32, 128, 256]⟩ : Shape).Idx → EReal)

/-- Every device holds the tokens, the router weights and the choices, and its own two of the thirty-two experts. -/
structure Holds : Prop where
  tokens : ∀ c : Dev nD, m ((c : Thread nD τ).loc main_arg0) = x
  router : ∀ c : Dev nD, m ((c : Thread nD τ).loc main_arg1) = rw
  choices : ∀ c : Dev nD, m ((c : Thread nD τ).loc main_arg2) = idx
  experts : ∀ c : Dev nD, m ((c : Thread nD τ).loc main_arg3)
    = Layout.block ⟨3, ![2, 128, 256]⟩ ⟨3, ![32, 128, 256]⟩ 0 16 c W

/-- The output of expert `e` at a row and a column. -/
def expertOut (r h : Fin 256) (e : Fin 32) : EReal := ∑ k : Fin 128, x (ix2 r k) * W (ix3 e k h)

/-- The weight a row gives an expert's word. -/
def rowWeight (r : Fin 256) (w : BitVec 32) : EReal :=
  weight (idx (ix2 r 0)) (idx (ix2 r 1))
    (share (fun e => k0_pay2 (F := Ideal) x rw (ix2 r e)) (idx (ix2 r 0)) (idx (ix2 r 1)))
    (share' (fun e => k0_pay2 (F := Ideal) x rw (ix2 r e)) (idx (ix2 r 0)) (idx (ix2 r 1))) w

variable {m x rw idx W}

/-- A column of choices, row by row. -/
theorem colAt_at (H : Holds m x rw idx W) (d : Dev nD) (l : Fin 2) (r : Fin 256) :
    colAt m d l (ix2 r 0) = idx (ix2 r l) := by
  unfold colAt
  rw [idxAt_eq, H.choices]
  refine congrArg idx ?_
  funext i
  match i with
  | ⟨0, _⟩ => rfl
  | ⟨1, _⟩ => rfl

/-- A device's two expert matrices are two of the thirty-two. -/
theorem expAt_at (H : Holds m x rw idx W) (d : Dev nD) (l : Fin 2) (k : Fin 128) (h : Fin 256) :
    expAt m d l (ix3 0 k h) = W (ix3 ⟨d.val * 2 + l.val, by have := d.isLt; have := l.isLt; simp only [nD] at *; omega⟩ k h) := by
  unfold expAt
  rw [ewAt_eq, H.experts]
  unfold Layout.block
  refine congrArg W ?_
  funext i
  refine Fin.ext ?_
  rw [Layout.Tiles.idx_val]
  match i with
  | ⟨0, _⟩ => rfl
  | ⟨1, _⟩ => rfl
  | ⟨2, _⟩ => rfl

/-- A device's partial result at a row and a column: its two experts' outputs, weighted. -/
theorem acc_at (H : Holds m x rw idx W) (d : Dev nD) (n a : Fin 16) (h : Fin 256) :
    accAt m d (elemAt n a h)
      = rowWeight x rw idx (row n a) (BitVec.ofNat 32 (d.val * 2)) * expertOut x W (row n a) h ⟨d.val * 2, by have := d.isLt; simp only [nD] at *; omega⟩
        + rowWeight x rw idx (row n a) (BitVec.ofNat 32 (d.val * 2 + 1))
          * expertOut x W (row n a) h ⟨d.val * 2 + 1, by have := d.isLt; simp only [nD] at *; omega⟩ := by
  rw [elemAt_eq]
  refine (part_at (devWord d) (xAt m d) (probAt m d) (colAt m d 0) (colAt m d 1) (expAt m d 0) (expAt m d 1) n a h).trans ?_
  unfold probAt rowWeight expertOut
  rw [colAt_at H, colAt_at H, xAt_eq, rwAt_eq, H.tokens, H.router, expert_word0, expert_word1]
  simp only [expAt_at H]
  rfl

/-- THE KERNEL AT A ROW AND A COLUMN: every expert's output there, weighted, summed over the thirty-two. -/
theorem finalA_at (H : Holds m x rw idx W) (c : Dev nD) (a : Fin 16) (h : Fin 256) :
    finalA m ρ c (4 : Fin 5) (ix2 a h)
      = ∑ e : Fin 32, rowWeight x rw idx (row c a) (BitVec.ofNat 32 e.val) * expertOut x W (row c a) h e := by
  rw [finalA_out, sum_pairs]
  refine (pay14_at (ownAt m c) (landAt m c) a h).trans ?_
  refine (sum_back c (fun d => accAt m d (elemAt c a h)) (fun n => landAt m c (ix3 n a h)) ?_ ?_).trans ?_
  · exact Ideal.ofBits_zero_f32
  · intro k
    exact if_neg (Nat.succ_ne_zero _)
  · exact Finset.sum_congr rfl fun d _ => acc_at H d c a h

end AtIdeal

end Cert.KernelIdeal.Value
end
end
-- ==== Proof.RefValue.lean ====
/- What the reference computes at an index, over the extended reals. -/
module

public import proofs.«01_k».proof.Proof.Gen.ReferenceIdeal
public import proofs.«01_k».proof.Proof.Gen.ReferenceIdeal.Run
public import proofs.«01_k».proof.Proof.Mix
public import Idealize.ShloMosaic.Lib.Pointwise

@[expose] public section

set_option maxRecDepth 16384

noncomputable section

namespace Cert.ReferenceIdeal.Parts

open Cert.ReferenceIdeal Cert.ReferenceIdeal.Gen Cert.ReferenceIdeal.Facts Cert.Mix
open Idealize.ShloMosaic Idealize.ShloMosaic.TcCoe Idealize.SL.Sem

/-- The router's scores. -/
def scores (x : FVec Ideal S256x128 .f32) (rw : FVec Ideal S128x32 .f32) : FVec Ideal S256x32 .f32 :=
  Host.dotGeneral dot_S256x128_S128x32_S256x32_1_0_0_1_n_n none x rw

/-- The exponentials of the scores, each row's maximum taken off. -/
def expScores (x : FVec Ideal S256x128 .f32) (rw : FVec Ideal S128x32 .f32) : FVec Ideal S256x32 .f32 :=
  Host.exp (subf (scores x rw) (broadcastInDim S256x32 ![0, 1] bcast_S256x1_S256x32_0_1
    (broadcastInDim S256x1 ![0] bcast_S256_S256x1_0
      (Host.reduce FloatOps.maximumf (scores x rw) (constant S_ .f32 0xFF800000#32) reducesTo_S256x32_S256_d1 h_S_))))

/-- The router's probabilities: each row's exponentials over their sum. -/
def probs (x : FVec Ideal S256x128 .f32) (rw : FVec Ideal S128x32 .f32) : FVec Ideal S256x32 .f32 :=
  Host.divf (expScores x rw) (broadcastInDim S256x32 ![0, 1] bcast_S256x1_S256x32_0_1
    (broadcastInDim S256x1 ![0] bcast_S256_S256x1_0
      (Host.reduceAdd (expScores x rw) (constant S_ .f32 0x00000000#32) reducesTo_S256x32_S256_d1 h_S_)))

/-- The first choices, as a column. -/
def col0 (idx : IVec S256x2 32) : IVec S256x1 32 :=
  broadcastInDim S256x1 ![0] bcast_S256_S256x1_0
    (shapeCast _ (extractStridedSlice S256x1 ![0, 0] idx slices_S256x2_S256x1_0_0) shapeCasts_S256x1_S256)

/-- The second choices, as a column. -/
def col1 (idx : IVec S256x2 32) : IVec S256x1 32 :=
  broadcastInDim S256x1 ![0] bcast_S256_S256x1_0
    (shapeCast _ (extractStridedSlice S256x1 ![0, 1] idx slices_S256x2_S256x1_0_1) shapeCasts_S256x1_S256)

/-- Each row's number beside its choice. -/
def pairs (c : IVec S256x1 32) : IVec S256x2 32 :=
  concatenate S256x2 1 [⟨S256x1, (broadcastInDim S256x1 ![0] bcast_S256_S256x1_0 (iotaInDim S256 32 0))⟩, ⟨S256x1, c⟩]
    concatenates_S256x1_S256x1_S256x2_d1

/-- The rows whose pair lies inside the table of probabilities, `lim` the last row and column. -/
def pairIn (lim : Fin 2 → BitVec 32) (c : IVec S256x1 32) : IVec S256 1 :=
  Host.reduce IntOp.andi (andi (cmpi .sge (pairs c) (broadcastInDim S256x2 ![] bcast_S_S256x2 (constantI S_ 32 0#32)))
    (cmpi .sle (pairs c) (broadcastInDim S256x2 ![0, 1] bcast_S1x2_S256x2_0_1
      (broadcastInDim S1x2 ![1] bcast_S2_S1x2_1 ((fun i => lim (S2.rowMajor i)))))))
    (constantI S_ 1 1#1) reducesTo_S256x2_S256_d1 h_S_

/-- Each row's probability of its choice, zero where the choice is out of range. -/
def picked (lim : Fin 2 → BitVec 32) (P : FVec Ideal S256x32 .f32) (c : IVec S256x1 32) : FVec Ideal S256 .f32 :=
  select (pairIn lim c) (Host.gather gather_S256x32_S256x2_S256_n_01_n_n_01_1_11 P (pairs c))
    (broadcastInDim S256 ![] bcast_S_S256 (constant S_ .f32 0x00000000#32))

/-- The rows whose choice names one of the thirty-two experts. -/
def choiceIn (c : IVec S256x1 32) : IVec S256 1 :=
  Host.reduce IntOp.andi (andi (cmpi .sge c (broadcastInDim S256x1 ![] bcast_S_S256x1 (constantI S_ 32 0#32)))
    (cmpi .sle c (broadcastInDim S256x1 ![0, 1] bcast_S1x1_S256x1_0_1
      (broadcastInDim S1x1 ![1] bcast_S1_S1x1_1 (constantI S1 32 31#32)))))
    (constantI S_ 1 1#1) reducesTo_S256x1_S256_d1 h_S_

/-- Each row's own expert matrix, zero where the choice is out of range. -/
def table (W : FVec Ideal S32x128x256 .f32) (c : IVec S256x1 32) : FVec Ideal S256x128x256 .f32 :=
  select (broadcastInDim S256x128x256 ![0] bcast_S256_S256x128x256_0 (choiceIn c))
    (Host.gather gather_S32x128x256_S256x1_S256x128x256_12_0_n_n_0_1_1128256 W c)
    (broadcastInDim S256x128x256 ![] bcast_S_S256x128x256 (constant S_ .f32 0x00000000#32))

/-- One choice's contribution: its part `p` of `q + r`, times the row's product with its expert matrix. -/
def term (p q r : FVec Ideal S256 .f32) (x : FVec Ideal S256x128 .f32) (T : FVec Ideal S256x128x256 .f32) :
    FVec Ideal S256x256 .f32 :=
  mulf (broadcastInDim S256x256 ![0, 1] bcast_S256x1_S256x256_0_1 (broadcastInDim S256x1 ![0] bcast_S256_S256x1_0
      (Host.divf p (addf q r))))
    (Host.dotGeneral dot_S256x128_S256x128x256_S256x256_1_1_n_2_0_0 none x T)

/-- The reference's result. -/
def out (x : FVec Ideal S256x128 .f32) (rw : FVec Ideal S128x32 .f32) (idx : IVec S256x2 32)
    (W : FVec Ideal S32x128x256 .f32) : FVec Ideal S256x256 .f32 :=
  addf (term (picked lit0 (probs x rw) (col0 idx)) (picked lit0 (probs x rw) (col0 idx)) (picked lit1 (probs x rw) (col1 idx))
      x (table W (col0 idx)))
    (term (picked lit1 (probs x rw) (col1 idx)) (picked lit0 (probs x rw) (col0 idx)) (picked lit1 (probs x rw) (col1 idx))
      x (table W (col1 idx)))

/-- What the reference's run leaves is that result of its four arguments. -/
theorem res_eq (m : (ℓ : Loc nD τ sig) → Buf (Elt Ideal) ℓ) (c : Dev nD) :
    Cert.ReferenceIdeal.Value.res_out0 (F := Ideal) m c
      = out (m ((c.tc : Thread nD τ).loc main_arg0)) (m ((c.tc : Thread nD τ).loc main_arg1))
          (m ((c.tc : Thread nD τ).loc main_arg2)) (m ((c.tc : Thread nD τ).loc main_arg3)) := rfl

/-- The first column's entries. -/
theorem col0_at (idx : IVec S256x2 32) (r : Fin 256) : col0 idx (ix2 r 0) = idx (ix2 r 0) := by
  pointwise [col0]

/-- The second column's entries. -/
theorem col1_at (idx : IVec S256x2 32) (r : Fin 256) : col1 idx (ix2 r 0) = idx (ix2 r 1) := by
  pointwise [col1]

/-- A pair's first entry is the row's number. -/
theorem pairs_at0 (c : IVec S256x1 32) (r : Fin 256) : pairs c (ix2 r 0) = BitVec.ofNat 32 r.val := by
  pointwise [pairs]

/-- A pair's second entry is the row's choice. -/
theorem pairs_at1 (c : IVec S256x1 32) (r : Fin 256) : pairs c (ix2 r 1) = c (ix2 r 0) := by
  pointwise [pairs]

/-- A row number is a row of the table. -/
theorem row_in (r : Fin 256) :
    IntOp.andi (IntOp.cmpi .sge (BitVec.ofNat 32 r.val) 0#32) (IntOp.cmpi .sle (BitVec.ofNat 32 r.val) 255#32) = 1#1 := by
  revert r; decide +kernel

/-- A row's pair lies inside the table of probabilities when its choice is in range. -/
theorem pairIn_at (lim : Fin 2 → BitVec 32) (h0 : lim (S2.rowMajor (ix1 0)) = 255#32) (h1 : lim (S2.rowMajor (ix1 1)) = 31#32)
    (c : IVec S256x1 32) (r : Fin 256) : pairIn lim c (ix1 r) = inRange (c (ix2 r 0)) := by
  pointwise [pairIn]
  rw [show (Finset.univ : Finset (Fin 2)) = {0, 1} from rfl, Finset.fold_insert (by decide), Finset.fold_singleton,
    pairs_at0, pairs_at1, h0, h1, row_in]
  exact (by decide : ∀ b : BitVec 1, IntOp.andi 1#1 (IntOp.andi b 1#1) = b) _

/-- The same test for the table of experts. -/
theorem choiceIn_at (c : IVec S256x1 32) (r : Fin 256) : choiceIn c (ix1 r) = inRange (c (ix2 r 0)) := by
  pointwise [choiceIn]
  rw [show (Finset.univ : Finset (Fin 1)) = {0} from rfl, Finset.fold_singleton]
  exact (by decide : ∀ b : BitVec 1, IntOp.andi b 1#1 = b) _

/-- A row number, read signed and cut to the last row, is itself. -/
theorem row_clamp (r : Fin 256) : min (BitVec.ofNat 32 r.val).toInt.toNat (256 - 1) = r.val := by
  revert r; decide +kernel

/-- An expert's number, read signed and cut to the last expert, is itself. -/
theorem expert_clamp (e : Fin 32) : min (BitVec.ofNat 32 e.val).toInt.toNat (32 - 1) = e.val := by
  revert e; decide +kernel

/-- On an axis the start indices name and no offset moves along, a gather reads at the start index's component, cut so
    that the slice fits. -/
theorem operand_start {s si t : Shape} (d : GatherDims s si t) {w : Nat} (j : t.Idx) (idx : IVec si w) (a : Fin s.rank)
    (ha : a ∈ d.startIndexMap) (hb : a ∉ d.operandBatchingDims) (hk : a ∉ d.sKept) (i : si.Idx)
    (hi : d.siIdx j ⟨d.startIndexMap.idxOf a, List.idxOf_lt_length_iff.2 ha⟩ = i) :
    (d.operandIdx j idx a).val = min (idx i).toInt.toNat (s.size a - d.sliceSizes a) := by
  have hs : d.start j idx a = min (idx i).toInt.toNat (s.size a - d.sliceSizes a) := by
    unfold GatherDims.start
    rw [dif_pos ha, hi]
  show d.start j idx a + d.batchCoord j a + d.offCoord j a = _
  rw [hs, d.batchCoord_eq_zero j a hb, d.offCoord_eq_zero j a hk]
  simp only [Nat.add_zero]

/-- On an axis the start indices do not name, a gather reads at the result's offset coordinate. -/
theorem operand_offset {s si t : Shape} (d : GatherDims s si t) {w : Nat} (j : t.Idx) (idx : IVec si w) (a : Fin s.rank)
    (ha : a ∉ d.startIndexMap) (hb : a ∉ d.operandBatchingDims) : (d.operandIdx j idx a).val = d.offCoord j a := by
  have hs : d.start j idx a = 0 := dif_neg ha
  show d.start j idx a + d.batchCoord j a + d.offCoord j a = _
  rw [hs, d.batchCoord_eq_zero j a hb]
  simp only [Nat.zero_add]

/-- The gather of a row's pair, its choice an expert's word, reads the row's probability of that expert. -/
theorem gather_pair (P : FVec Ideal S256x32 .f32) (c : IVec S256x1 32) (r : Fin 256) (e : Fin 32)
    (h : c (ix2 r 0) = BitVec.ofNat 32 e.val) :
    Host.gather gather_S256x32_S256x2_S256_n_01_n_n_01_1_11 P (pairs c) (ix1 r) = P (ix2 r e) := by
  refine congrArg P (funext fun a => Fin.ext ?_)
  obtain rfl | rfl := (by decide : ∀ a : Fin 2, a = 0 ∨ a = 1) a
  · refine (operand_start _ _ _ _ (by decide) (by decide) (by decide) (ix2 r 0) ?_).trans ?_
    · funext b
      match b with
      | ⟨0, _⟩ => rfl
      | ⟨1, _⟩ => rfl
    · rw [pairs_at0]
      exact row_clamp r
  · refine (operand_start _ _ _ _ (by decide) (by decide) (by decide) (ix2 r 1) ?_).trans ?_
    · funext b
      match b with
      | ⟨0, _⟩ => rfl
      | ⟨1, _⟩ => rfl
    · rw [pairs_at1, h]
      exact expert_clamp e

/-- A row's picked probability. -/
theorem picked_at (lim : Fin 2 → BitVec 32) (h0 : lim (S2.rowMajor (ix1 0)) = 255#32) (h1 : lim (S2.rowMajor (ix1 1)) = 31#32)
    (P : FVec Ideal S256x32 .f32) (c : IVec S256x1 32) (r : Fin 256) :
    picked lim P c (ix1 r) = gate (fun e => P (ix2 r e)) (c (ix2 r 0)) := by
  pointwise [picked]
  rw [pairIn_at lim h0 h1]
  by_cases h : ∃ e : Fin 32, c (ix2 r 0) = BitVec.ofNat 32 e.val
  · rw [(inRange_iff _).mpr h]
    obtain ⟨e, he⟩ := h
    rw [gate_some _ he, ← gather_pair P c r e he]
    rfl
  · rw [gate_none _ h, ValueIdx.eq_zero_of_ne_one fun h' => h ((inRange_iff _).mp h')]
    rfl

/-- The gather of a row's expert matrix, its choice an expert's word, reads that expert's matrix. -/
theorem gather_expert (W : FVec Ideal S32x128x256 .f32) (c : IVec S256x1 32) (r h : Fin 256) (k : Fin 128) (e : Fin 32)
    (he : c (ix2 r 0) = BitVec.ofNat 32 e.val) :
    Host.gather gather_S32x128x256_S256x1_S256x128x256_12_0_n_n_0_1_1128256 W c (ix3 r k h) = W (ix3 e k h) := by
  refine congrArg W (funext fun a => Fin.ext ?_)
  obtain rfl | rfl | rfl := (by decide : ∀ a : Fin 3, a = 0 ∨ a = 1 ∨ a = 2) a
  · refine (operand_start _ _ _ _ (by decide) (by decide) (by decide) (ix2 r 0) ?_).trans ?_
    · funext b
      match b with
      | ⟨0, _⟩ => rfl
      | ⟨1, _⟩ => rfl
    · rw [he]
      exact expert_clamp e
  · exact operand_offset _ _ _ _ (by decide) (by decide)
  · exact operand_offset _ _ _ _ (by decide) (by decide)

/-- An entry of a row's expert matrix. -/
theorem table_at (W : FVec Ideal S32x128x256 .f32) (c : IVec S256x1 32) (r h : Fin 256) (k : Fin 128) :
    table W c (ix3 r k h) = gate (fun e => W (ix3 e k h)) (c (ix2 r 0)) := by
  pointwise [table]
  rw [choiceIn_at]
  by_cases hh : ∃ e : Fin 32, c (ix2 r 0) = BitVec.ofNat 32 e.val
  · rw [(inRange_iff _).mpr hh]
    obtain ⟨e, he⟩ := hh
    rw [gate_some _ he, ← gather_expert W c r h k e he]
    rfl
  · rw [gate_none _ hh, ValueIdx.eq_zero_of_ne_one fun h' => hh ((inRange_iff _).mp h')]
    rfl

/-- One choice's contribution at a row and a column. -/
theorem term_at (p q s : FVec Ideal S256 .f32) (x : FVec Ideal S256x128 .f32) (T : FVec Ideal S256x128x256 .f32) (r h : Fin 256) :
    term p q s x T (ix2 r h) = Ideal.div (p (ix1 r)) (q (ix1 r) + s (ix1 r)) * ∑ k : Fin 128, x (ix2 r k) * T (ix3 r k h) := by
  pointwise [term]

/-- THE REFERENCE AT A ROW AND A COLUMN: each choice's part of the two probabilities' sum, times the output of the expert it
    names. -/
theorem out_at (x : FVec Ideal S256x128 .f32) (rw : FVec Ideal S128x32 .f32) (idx : IVec S256x2 32)
    (W : FVec Ideal S32x128x256 .f32) (r h : Fin 256) :
    out x rw idx W (ix2 r h)
      = share (fun e => probs x rw (ix2 r e)) (idx (ix2 r 0)) (idx (ix2 r 1))
          * gate (fun e => ∑ k : Fin 128, x (ix2 r k) * W (ix3 e k h)) (idx (ix2 r 0))
        + share' (fun e => probs x rw (ix2 r e)) (idx (ix2 r 0)) (idx (ix2 r 1))
          * gate (fun e => ∑ k : Fin 128, x (ix2 r k) * W (ix3 e k h)) (idx (ix2 r 1)) := by
  unfold out
  show term _ _ _ _ _ (ix2 r h) + term _ _ _ _ _ (ix2 r h) = _
  rw [term_at, term_at, picked_at lit0 rfl rfl, picked_at lit1 rfl rfl, col0_at, col1_at]
  simp only [table_at, col0_at, col1_at]
  rw [sum_gate (fun k => x (ix2 r k)) (fun e k => W (ix3 e k h)), sum_gate (fun k => x (ix2 r k)) (fun e k => W (ix3 e k h))]
  rfl

end Cert.ReferenceIdeal.Parts
end
end
-- ==== Proof.Agree.lean ====
/- The kernel's array of results and the reference's, equal over the extended reals. -/
module

public import proofs.«01_k».proof.Proof.DeviceValue
public import proofs.«01_k».proof.Proof.RefValue
public import Idealize.ShloMosaic.Lib.Pointwise

@[expose] public section

set_option maxRecDepth 16384

noncomputable section

namespace Cert.Agree

open Idealize.ShloMosaic Idealize.ShloMosaic.TcCoe
open Cert.Mix

/-- The kernel's router probabilities are the reference's. -/
theorem probs_eq (x : FVec Ideal ⟨2, ![256, 128]⟩ .f32) (rw : FVec Ideal ⟨2, ![128, 32]⟩ .f32) (r : Fin 256) (e : Fin 32) :
    Cert.KernelIdeal.Gen.k0_pay2 (F := Ideal) x rw (ix2 r e) = Cert.ReferenceIdeal.Parts.probs x rw (ix2 r e) := by
  pointwise [Cert.KernelIdeal.Gen.k0_pay2, Cert.KernelIdeal.Gen.k0_pay1, Cert.ReferenceIdeal.Parts.probs,
    Cert.ReferenceIdeal.Parts.expScores, Cert.ReferenceIdeal.Parts.scores]

/-- THE RESULT: a device's array of results is its sixteen rows of the reference's. -/
theorem rows_eq {m : (ℓ : Loc Cert.KernelIdeal.nD Cert.KernelIdeal.τ Cert.KernelIdeal.sig) → Buf (Elt Ideal) ℓ}
    (ρ : Dev Cert.KernelIdeal.nD → PrngReg) {x : FVec Ideal ⟨2, ![256, 128]⟩ .f32} {rw : FVec Ideal ⟨2, ![128, 32]⟩ .f32}
    {idx : IVec ⟨2, ![256, 2]⟩ 32} {W : FVec Ideal ⟨3, ![32, 128, 256]⟩ .f32} (H : Cert.KernelIdeal.Value.Holds m x rw idx W)
    (c : Dev Cert.KernelIdeal.nD) :
    Cert.KernelIdeal.Exchange.finalA m ρ c (4 : Fin 5)
      = Layout.block ⟨2, ![16, 256]⟩ ⟨2, ![256, 256]⟩ 0 16 c (Cert.ReferenceIdeal.Parts.out x rw idx W) := by
  funext j
  obtain ⟨a, h, rfl⟩ : ∃ (a : Fin 16) (h : Fin 256), j = ix2 a h := ⟨j 0, j 1, eq_ix2 j⟩
  refine (Cert.KernelIdeal.Value.finalA_at ρ H c a h).trans ?_
  have hj : (Layout.block ⟨2, ![16, 256]⟩ ⟨2, ![256, 256]⟩ 0 16 c (Cert.ReferenceIdeal.Parts.out x rw idx W)) (ix2 a h)
      = Cert.ReferenceIdeal.Parts.out x rw idx W (ix2 (Cert.KernelIdeal.Value.row c a) h) := by
    unfold Layout.block
    refine congrArg (Cert.ReferenceIdeal.Parts.out x rw idx W) ?_
    funext i
    refine Fin.ext ?_
    rw [Layout.Tiles.idx_val]
    match i with
    | ⟨0, _⟩ => rfl
    | ⟨1, _⟩ => rfl
  rw [hj, Cert.ReferenceIdeal.Parts.out_at]
  unfold Cert.KernelIdeal.Value.rowWeight
  simp only [probs_eq]
  exact sum_weight (fun e : Fin 32 => BitVec.ofNat 32 e.val) (fun e e' h => word_inj h) _ _ _ _ (share_eq _) _

end Cert.Agree
end
end
-- ==== Proof.lean ====
/- The proof of the claim: the frames of the kernel and of the reference, and their equality over the extended reals. -/
module

public import proofs.«01_k».proof.Defs
public import proofs.«01_k».proof.Proof.Launch
public import proofs.«01_k».proof.Proof.Agree
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

set_option maxRecDepth 16384

noncomputable section

namespace Cert.Proof

open Idealize.ShloMosaic Idealize.SL.Sem

section Kernel

open Cert.KernelIdeal Cert.KernelIdeal.Exchange

variable {F : FTy → Type} [FloatOps F] {m : (ℓ : Loc nD τ sig) → Buf (Elt F) ℓ} {ρ : Dev nD → PrngReg}

/-- Every device's four argument arrays end as they began. -/
theorem args_kept {r : PUnit × MemSt nD τ sig (Elt F)} (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(h c (0 : Fin 5)).trans (finalA_in m ρ c 0 (by decide)), (h c (1 : Fin 5)).trans (finalA_in m ρ c 1 (by decide)),
    (h c (2 : Fin 5)).trans (finalA_in m ρ c 2 (by decide)), (h c (3 : Fin 5)).trans (finalA_in m ρ c 3 (by decide))⟩

/-- The frame, for any float values. -/
theorem frame (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun _ h => ⟨args_kept h.1, h.2⟩) (run_main m ρ)

end Kernel

set_option smartUnfolding false in
/-- The frame of the kernel over machine floats: the two programs are one text, read over either kind of float. -/
theorem frame_kernel : Cert.quiescent_Kernel := fun m ρ _ => frame (F := Bits) m ρ

/-- The frame of the kernel over the extended reals. -/
theorem frame_ideal : Cert.quiescent_KernelIdeal := fun m ρ _ => frame (F := Ideal) m ρ

/-- The frame of the reference over the extended reals. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- THE VALUE: from one set of arguments, the experts dealt out two to a device, the sixteen devices end with the
    reference's result dealt out sixteen rows to a device. -/
theorem algebraic : Cert.algebraic_KernelIdeal_ReferenceIdeal := by
  intro m g m' g' _ hargs
  have H : Cert.KernelIdeal.Value.Holds m _ _ _ _ := ⟨fun c => (hargs c).1, fun c => (hargs c).2.1, fun c => (hargs c).2.2.1,
    fun c => (hargs c).2.2.2⟩
  refine ⟨Cert.ReferenceIdeal.Value.res_out0 (F := Ideal) m' 0, ?_, ?_⟩
  · refine (θ_run Cert.KernelIdeal.defs _ _).mono (fun r h c => ⟨?_, args_kept h.1 c⟩)
      (Cert.KernelIdeal.Exchange.run_main (F := Ideal) m g)
    rw [Cert.ReferenceIdeal.Parts.res_eq]
    exact (h.1 c (4 : Fin 5)).trans (Cert.Agree.rows_eq g H c)
  · exact (θ_run Cert.ReferenceIdeal.defs _ _).mono (fun r h => h 0) (Cert.ReferenceIdeal.Value.run (F := Ideal) m' g')

/-- Everything claimed. -/
theorem claim : Cert.Claim := ⟨Cert.Kernel.Gen.facts, Cert.KernelIdeal.Gen.facts, Cert.ReferenceIdeal.Gen.facts,
  frame_kernel, frame_ideal, frame_reference, trivial, algebraic⟩

end Cert.Proof

end
